-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024 : Shape := ⟨2, ![32, 1024]⟩
abbrev S1024x32 : Shape := ⟨2, ![1024, 32]⟩
abbrev S1024x1024 : Shape := ⟨2, ![1024, 1024]⟩
abbrev S4x4 : Shape := ⟨2, ![4, 4]⟩
abbrev S3 : Shape := ⟨1, ![3]⟩
abbrev S_ : Shape := ⟨0, ![]⟩
abbrev S1 : Shape := ⟨1, ![1]⟩
abbrev S1x1 : Shape := ⟨2, ![1, 1]⟩

abbrev nBuf : Space → Nat
  | .hbm => 3
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S1024x32, .f32⟩
  | .hbm, ⟨2, _⟩ => ⟨S1024x32, .f32⟩
  | .local _ .vmem, ⟨0, _⟩ => ⟨S32x1024, .f32⟩
  | .local _ .vmem, ⟨1, _⟩ => ⟨S1024x32, .f32⟩
  | .local _ .vmem, ⟨2, _⟩ => ⟨S1024x32, .f32⟩
  | .local _ .vmem, ⟨3, _⟩ => ⟨S1024x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_33 : BitVec 32 := 1#32
  let v59 : BitVec 32 := Scalar.muli v13 c1_i32_33
  let v60 : BitVec 32 := Scalar.addi c0_i32_34 v59
  v60.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_36 : BitVec 32 := 1#32
  let v61 : BitVec 32 := Scalar.muli v24 c1_i32_36
  let v62 : BitVec 32 := Scalar.addi c0_i32_37 v61
  v62.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v26 : BitVec 32 := Scalar.addi v2 c8_i32
  let c32_i32_13 : BitVec 32 := 32#32
  let c0_i32_14 : BitVec 32 := 0#32
  let v27 : BitVec 1 := Scalar.cmpi .eq c32_i32_13 c0_i32_14
  let c1_i32_15 : BitVec 32 := 1#32
  let v28 : BitVec 32 := Scalar.select v27 c1_i32_15 c32_i32_13
  let v29 : BitVec 32 := Scalar.remsi v26 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let c1_i32_39 : BitVec 32 := 1#32
  let v63 : BitVec 32 := Scalar.muli v36 c1_i32_39
  let v64 : BitVec 32 := Scalar.addi c0_i32_40 v63
  v64.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_19 : BitVec 32 := 8#32
  let v37 : BitVec 32 := Scalar.subi v2 c8_i32_19
  let c32_i32_20 : BitVec 32 := 32#32
  let c0_i32_21 : BitVec 32 := 0#32
  let v38 : BitVec 1 := Scalar.cmpi .eq c32_i32_20 c0_i32_21
  let c1_i32_22 : BitVec 32 := 1#32
  let v39 : BitVec 32 := Scalar.select v38 c1_i32_22 c32_i32_20
  let v40 : BitVec 32 := Scalar.remsi v37 v39
  let c0_i32_24 : BitVec 32 := 0#32
  let v42 : BitVec 1 := Scalar.cmpi .slt v40 c0_i32_24
  let c0_i32_25 : BitVec 32 := 0#32
  let v43 : BitVec 1 := Scalar.cmpi .slt v39 c0_i32_25
  let v44 : BitVec 1 := Scalar.xori v42 v43
  let c0_i32_23 : BitVec 32 := 0#32
  let v41 : BitVec 1 := Scalar.cmpi .ne v40 c0_i32_23
  let v45 : BitVec 1 := Scalar.andi v44 v41
  let v46 : BitVec 32 := Scalar.addi v40 v39
  let v47 : BitVec 32 := Scalar.select v45 v46 v40
  let c1_i32_42 : BitVec 32 := 1#32
  let v65 : BitVec 32 := Scalar.muli v47 c1_i32_42
  let v66 : BitVec 32 := Scalar.addi c0_i32_43 v65
  v66.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v48 : BitVec 32 := Scalar.addi v2 c16_i32
  let c32_i32_26 : BitVec 32 := 32#32
  let c0_i32_27 : BitVec 32 := 0#32
  let v49 : BitVec 1 := Scalar.cmpi .eq c32_i32_26 c0_i32_27
  let c1_i32_28 : BitVec 32 := 1#32
  let v50 : BitVec 32 := Scalar.select v49 c1_i32_28 c32_i32_26
  let v51 : BitVec 32 := Scalar.remsi v48 v50
  let c0_i32_30 : BitVec 32 := 0#32
  let v53 : BitVec 1 := Scalar.cmpi .slt v51 c0_i32_30
  let c0_i32_31 : BitVec 32 := 0#32
  let v54 : BitVec 1 := Scalar.cmpi .slt v50 c0_i32_31
  let v55 : BitVec 1 := Scalar.xori v53 v54
  let c0_i32_29 : BitVec 32 := 0#32
  let v52 : BitVec 1 := Scalar.cmpi .ne v51 c0_i32_29
  let v56 : BitVec 1 := Scalar.andi v55 v52
  let v57 : BitVec 32 := Scalar.addi v51 v50
  let v58 : BitVec 32 := Scalar.select v56 v57 v51
  let c1_i32_45 : BitVec 32 := 1#32
  let v67 : BitVec 32 := Scalar.muli v58 c1_i32_45
  let v68 : BitVec 32 := Scalar.addi c0_i32_46 v67
  v68.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_48 : BitVec 32 := 32#32
  let v71 : BitVec 32 := Scalar.muli v2 c32_i32_48
  let v72 : Index := Scalar.indexCast v71
  let c0_49 : Index := 0#32
  ![v72.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_64 : BitVec 32 := 32#32
  let c0_i32_65 : BitVec 32 := 0#32
  let v98 : BitVec 1 := Scalar.cmpi .eq c32_i32_64 c0_i32_65
  let c1_i32_66 : BitVec 32 := 1#32
  let v99 : BitVec 32 := Scalar.select v98 c1_i32_66 c32_i32_64
  let v100 : BitVec 32 := Scalar.remsi v2 v99
  let c0_i32_68 : BitVec 32 := 0#32
  let v102 : BitVec 1 := Scalar.cmpi .slt v100 c0_i32_68
  let c0_i32_69 : BitVec 32 := 0#32
  let v103 : BitVec 1 := Scalar.cmpi .slt v99 c0_i32_69
  let v104 : BitVec 1 := Scalar.xori v102 v103
  let c0_i32_67 : BitVec 32 := 0#32
  let v101 : BitVec 1 := Scalar.cmpi .ne v100 c0_i32_67
  let v105 : BitVec 1 := Scalar.andi v104 v101
  let v106 : BitVec 32 := Scalar.addi v100 v99
  let v107 : BitVec 32 := Scalar.select v105 v106 v100
  let c32_i32_70 : BitVec 32 := 32#32
  let v108 : BitVec 32 := Scalar.muli v107 c32_i32_70
  let c0_i32_75 : BitVec 32 := 0#32
  ![v108.toNat, 0]
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_50 : BitVec 32 := 8#32
  let v76 : BitVec 32 := Scalar.addi v2 c8_i32_50
  let c32_i32_51 : BitVec 32 := 32#32
  let c0_i32_52 : BitVec 32 := 0#32
  let v77 : BitVec 1 := Scalar.cmpi .eq c32_i32_51 c0_i32_52
  let c1_i32_53 : BitVec 32 := 1#32
  let v78 : BitVec 32 := Scalar.select v77 c1_i32_53 c32_i32_51
  let v79 : BitVec 32 := Scalar.remsi v76 v78
  let c0_i32_55 : BitVec 32 := 0#32
  let v81 : BitVec 1 := Scalar.cmpi .slt v79 c0_i32_55
  let c0_i32_56 : BitVec 32 := 0#32
  let v82 : BitVec 1 := Scalar.cmpi .slt v78 c0_i32_56
  let v83 : BitVec 1 := Scalar.xori v81 v82
  let c0_i32_54 : BitVec 32 := 0#32
  let v80 : BitVec 1 := Scalar.cmpi .ne v79 c0_i32_54
  let v84 : BitVec 1 := Scalar.andi v83 v80
  let v85 : BitVec 32 := Scalar.addi v79 v78
  let v86 : BitVec 32 := Scalar.select v84 v85 v79
  let c1_i32_73 : BitVec 32 := 1#32
  let v109 : BitVec 32 := Scalar.muli v86 c1_i32_73
  let v110 : BitVec 32 := Scalar.addi c0_i32_74 v109
  v110.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_77 : BitVec 32 := 16#32
  let v117 : BitVec 32 := Scalar.addi v2 c16_i32_77
  let c32_i32_78 : BitVec 32 := 32#32
  let c0_i32_79 : BitVec 32 := 0#32
  let v118 : BitVec 1 := Scalar.cmpi .eq c32_i32_78 c0_i32_79
  let c1_i32_80 : BitVec 32 := 1#32
  let v119 : BitVec 32 := Scalar.select v118 c1_i32_80 c32_i32_78
  let v120 : BitVec 32 := Scalar.remsi v117 v119
  let c0_i32_82 : BitVec 32 := 0#32
  let v122 : BitVec 1 := Scalar.cmpi .slt v120 c0_i32_82
  let c0_i32_83 : BitVec 32 := 0#32
  let v123 : BitVec 1 := Scalar.cmpi .slt v119 c0_i32_83
  let v124 : BitVec 1 := Scalar.xori v122 v123
  let c0_i32_81 : BitVec 32 := 0#32
  let v121 : BitVec 1 := Scalar.cmpi .ne v120 c0_i32_81
  let v125 : BitVec 1 := Scalar.andi v124 v121
  let v126 : BitVec 32 := Scalar.addi v120 v119
  let v127 : BitVec 32 := Scalar.select v125 v126 v120
  let c1_i32_100 : BitVec 32 := 1#32
  let v150 : BitVec 32 := Scalar.muli v127 c1_i32_100
  let v151 : BitVec 32 := Scalar.addi c0_i32_101 v150
  v151.toNat
def k0_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v158 : BitVec 32 := Scalar.addi v2 c24_i32
  let c32_i32_104 : BitVec 32 := 32#32
  let c0_i32_105 : BitVec 32 := 0#32
  let v159 : BitVec 1 := Scalar.cmpi .eq c32_i32_104 c0_i32_105
  let c1_i32_106 : BitVec 32 := 1#32
  let v160 : BitVec 32 := Scalar.select v159 c1_i32_106 c32_i32_104
  let v161 : BitVec 32 := Scalar.remsi v158 v160
  let c0_i32_108 : BitVec 32 := 0#32
  let v163 : BitVec 1 := Scalar.cmpi .slt v161 c0_i32_108
  let c0_i32_109 : BitVec 32 := 0#32
  let v164 : BitVec 1 := Scalar.cmpi .slt v160 c0_i32_109
  let v165 : BitVec 1 := Scalar.xori v163 v164
  let c0_i32_107 : BitVec 32 := 0#32
  let v162 : BitVec 1 := Scalar.cmpi .ne v161 c0_i32_107
  let v166 : BitVec 1 := Scalar.andi v165 v162
  let v167 : BitVec 32 := Scalar.addi v161 v160
  let v168 : BitVec 32 := Scalar.select v166 v167 v161
  let c1_i32_125 : BitVec 32 := 1#32
  let v191 : BitVec 32 := Scalar.muli v168 c1_i32_125
  let v192 : BitVec 32 := Scalar.addi c0_i32_126 v191
  v192.toNat
def k0_off3 (d0 : Dev nD) (c0_i32_129 : BitVec 32) (c1_i32_130 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v199 : BitVec 32 := Scalar.subi v2 c0_i32_129
  let v200 : BitVec 32 := Scalar.subi v199 c1_i32_130
  let c1_i32_131 : BitVec 32 := 1#32
  let v201 : BitVec 32 := Scalar.addi v200 c1_i32_131
  let c32_i32_139 : BitVec 32 := 32#32
  let c0_i32_140 : BitVec 32 := 0#32
  let v213 : BitVec 1 := Scalar.cmpi .eq c32_i32_139 c0_i32_140
  let c1_i32_141 : BitVec 32 := 1#32
  let v214 : BitVec 32 := Scalar.select v213 c1_i32_141 c32_i32_139
  let v215 : BitVec 32 := Scalar.remsi v201 v214
  let c0_i32_143 : BitVec 32 := 0#32
  let v217 : BitVec 1 := Scalar.cmpi .slt v215 c0_i32_143
  let c0_i32_144 : BitVec 32 := 0#32
  let v218 : BitVec 1 := Scalar.cmpi .slt v214 c0_i32_144
  let v219 : BitVec 1 := Scalar.xori v217 v218
  let c0_i32_142 : BitVec 32 := 0#32
  let v216 : BitVec 1 := Scalar.cmpi .ne v215 c0_i32_142
  let v220 : BitVec 1 := Scalar.andi v219 v216
  let v221 : BitVec 32 := Scalar.addi v215 v214
  let v222 : BitVec 32 := Scalar.select v220 v221 v215
  let c32_i32_145 : BitVec 32 := 32#32
  let v223 : BitVec 32 := Scalar.muli v222 c32_i32_145
  let c0_i32_152 : BitVec 32 := 0#32
  ![v223.toNat, 0]
def k0_off3_at (r : Fin 14) : BitVec 32 × BitVec 32 :=
  if r.val < 7 then
    if r.val < 3 then
      if r.val < 1 then
        (0#32, 1#32)
      else
        if r.val < 2 then
          (8#32, 1#32)
        else
          (16#32, 1#32)
    else
      if r.val < 5 then
        if r.val < 4 then
          (24#32, 1#32)
        else
          (0#32, 2#32)
      else
        if r.val < 6 then
          (8#32, 2#32)
        else
          (16#32, 2#32)
  else
    if r.val < 10 then
      if r.val < 8 then
        (24#32, 2#32)
      else
        if r.val < 9 then
          (0#32, 3#32)
        else
          (8#32, 3#32)
    else
      if r.val < 12 then
        if r.val < 11 then
          (16#32, 3#32)
        else
          (24#32, 3#32)
      else
        if r.val < 13 then
          (0#32, 4#32)
        else
          (16#32, 4#32)
def k0_dev9 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_150 : BitVec 32 := 1#32
  let v224 : BitVec 32 := Scalar.muli v24 c1_i32_150
  let v225 : BitVec 32 := Scalar.addi c0_i32_151 v224
  v225.toNat
def k0_off4 (d0 : Dev nD) (c0_i32_154 : BitVec 32) (c1_i32_155 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v232 : BitVec 32 := Scalar.subi v2 c0_i32_154
  let v233 : BitVec 32 := Scalar.addi v232 c1_i32_155
  let c1_i32_156 : BitVec 32 := 1#32
  let v234 : BitVec 32 := Scalar.subi v233 c1_i32_156
  let c32_i32_164 : BitVec 32 := 32#32
  let c0_i32_165 : BitVec 32 := 0#32
  let v246 : BitVec 1 := Scalar.cmpi .eq c32_i32_164 c0_i32_165
  let c1_i32_166 : BitVec 32 := 1#32
  let v247 : BitVec 32 := Scalar.select v246 c1_i32_166 c32_i32_164
  let v248 : BitVec 32 := Scalar.remsi v234 v247
  let c0_i32_168 : BitVec 32 := 0#32
  let v250 : BitVec 1 := Scalar.cmpi .slt v248 c0_i32_168
  let c0_i32_169 : BitVec 32 := 0#32
  let v251 : BitVec 1 := Scalar.cmpi .slt v247 c0_i32_169
  let v252 : BitVec 1 := Scalar.xori v250 v251
  let c0_i32_167 : BitVec 32 := 0#32
  let v249 : BitVec 1 := Scalar.cmpi .ne v248 c0_i32_167
  let v253 : BitVec 1 := Scalar.andi v252 v249
  let v254 : BitVec 32 := Scalar.addi v248 v247
  let v255 : BitVec 32 := Scalar.select v253 v254 v248
  let c32_i32_170 : BitVec 32 := 32#32
  let v256 : BitVec 32 := Scalar.muli v255 c32_i32_170
  let c0_i32_177 : BitVec 32 := 0#32
  ![v256.toNat, 0]
def k0_off4_at (r : Fin 14) : BitVec 32 × BitVec 32 :=
  if r.val < 7 then
    if r.val < 3 then
      if r.val < 1 then
        (0#32, 1#32)
      else
        if r.val < 2 then
          (8#32, 1#32)
        else
          (16#32, 1#32)
    else
      if r.val < 5 then
        if r.val < 4 then
          (24#32, 1#32)
        else
          (0#32, 2#32)
      else
        if r.val < 6 then
          (8#32, 2#32)
        else
          (16#32, 2#32)
  else
    if r.val < 10 then
      if r.val < 8 then
        (24#32, 2#32)
      else
        if r.val < 9 then
          (0#32, 3#32)
        else
          (8#32, 3#32)
    else
      if r.val < 12 then
        if r.val < 11 then
          (16#32, 3#32)
        else
          (24#32, 3#32)
      else
        if r.val < 13 then
          (0#32, 4#32)
        else
          (16#32, 4#32)
def k0_dev10 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_175 : BitVec 32 := 1#32
  let v257 : BitVec 32 := Scalar.muli v13 c1_i32_175
  let v258 : BitVec 32 := Scalar.addi c0_i32_176 v257
  v258.toNat
def k0_off5 (d0 : Dev nD) (c8_i32_179 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v265 : BitVec 32 := Scalar.subi v2 c8_i32_179
  let c32_i32_194 : BitVec 32 := 32#32
  let c0_i32_195 : BitVec 32 := 0#32
  let v288 : BitVec 1 := Scalar.cmpi .eq c32_i32_194 c0_i32_195
  let c1_i32_196 : BitVec 32 := 1#32
  let v289 : BitVec 32 := Scalar.select v288 c1_i32_196 c32_i32_194
  let v290 : BitVec 32 := Scalar.remsi v265 v289
  let c0_i32_198 : BitVec 32 := 0#32
  let v292 : BitVec 1 := Scalar.cmpi .slt v290 c0_i32_198
  let c0_i32_199 : BitVec 32 := 0#32
  let v293 : BitVec 1 := Scalar.cmpi .slt v289 c0_i32_199
  let v294 : BitVec 1 := Scalar.xori v292 v293
  let c0_i32_197 : BitVec 32 := 0#32
  let v291 : BitVec 1 := Scalar.cmpi .ne v290 c0_i32_197
  let v295 : BitVec 1 := Scalar.andi v294 v291
  let v296 : BitVec 32 := Scalar.addi v290 v289
  let v297 : BitVec 32 := Scalar.select v295 v296 v290
  let c32_i32_200 : BitVec 32 := 32#32
  let v298 : BitVec 32 := Scalar.muli v297 c32_i32_200
  let c0_i32_205 : BitVec 32 := 0#32
  ![v298.toNat, 0]
def k0_dev11 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_228 : BitVec 32 := 1#32
  let v330 : BitVec 32 := Scalar.muli v24 c1_i32_228
  let v331 : BitVec 32 := Scalar.addi c0_i32_229 v330
  v331.toNat
def k0_dev12 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_253 : BitVec 32 := 1#32
  let v363 : BitVec 32 := Scalar.muli v13 c1_i32_253
  let v364 : BitVec 32 := Scalar.addi c0_i32_254 v363
  v364.toNat
def k0_dev13 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_306 : BitVec 32 := 1#32
  let v436 : BitVec 32 := Scalar.muli v24 c1_i32_306
  let v437 : BitVec 32 := Scalar.addi c0_i32_307 v436
  v437.toNat
def k0_dev14 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_331 : BitVec 32 := 1#32
  let v469 : BitVec 32 := Scalar.muli v13 c1_i32_331
  let v470 : BitVec 32 := Scalar.addi c0_i32_332 v469
  v470.toNat
def k0_dev15 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_383 : BitVec 32 := 1#32
  let v542 : BitVec 32 := Scalar.muli v24 c1_i32_383
  let v543 : BitVec 32 := Scalar.addi c0_i32_384 v542
  v543.toNat
def k0_dev16 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_408 : BitVec 32 := 1#32
  let v575 : BitVec 32 := Scalar.muli v13 c1_i32_408
  let v576 : BitVec 32 := Scalar.addi c0_i32_409 v575
  v576.toNat
def k0_off6 (d0 : Dev nD) (c0_i32_412 : BitVec 32) (c1_i32_413 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v583 : BitVec 32 := Scalar.subi v2 c0_i32_412
  let v584 : BitVec 32 := Scalar.subi v583 c1_i32_413
  let c32_i32_421 : BitVec 32 := 32#32
  let c0_i32_422 : BitVec 32 := 0#32
  let v596 : BitVec 1 := Scalar.cmpi .eq c32_i32_421 c0_i32_422
  let c1_i32_423 : BitVec 32 := 1#32
  let v597 : BitVec 32 := Scalar.select v596 c1_i32_423 c32_i32_421
  let v598 : BitVec 32 := Scalar.remsi v584 v597
  let c0_i32_425 : BitVec 32 := 0#32
  let v600 : BitVec 1 := Scalar.cmpi .slt v598 c0_i32_425
  let c0_i32_426 : BitVec 32 := 0#32
  let v601 : BitVec 1 := Scalar.cmpi .slt v597 c0_i32_426
  let v602 : BitVec 1 := Scalar.xori v600 v601
  let c0_i32_424 : BitVec 32 := 0#32
  let v599 : BitVec 1 := Scalar.cmpi .ne v598 c0_i32_424
  let v603 : BitVec 1 := Scalar.andi v602 v599
  let v604 : BitVec 32 := Scalar.addi v598 v597
  let v605 : BitVec 32 := Scalar.select v603 v604 v598
  let c32_i32_427 : BitVec 32 := 32#32
  let v606 : BitVec 32 := Scalar.muli v605 c32_i32_427
  let c0_i32_434 : BitVec 32 := 0#32
  ![v606.toNat, 0]
def k0_off6_at (r : Fin 14) : BitVec 32 × BitVec 32 :=
  if r.val < 7 then
    if r.val < 3 then
      if r.val < 1 then
        (0#32, 1#32)
      else
        if r.val < 2 then
          (8#32, 1#32)
        else
          (16#32, 1#32)
    else
      if r.val < 5 then
        if r.val < 4 then
          (24#32, 1#32)
        else
          (0#32, 2#32)
      else
        if r.val < 6 then
          (8#32, 2#32)
        else
          (16#32, 2#32)
  else
    if r.val < 10 then
      if r.val < 8 then
        (24#32, 2#32)
      else
        if r.val < 9 then
          (0#32, 3#32)
        else
          (16#32, 3#32)
    else
      if r.val < 12 then
        if r.val < 11 then
          (0#32, 4#32)
        else
          (8#32, 3#32)
      else
        if r.val < 13 then
          (16#32, 4#32)
        else
          (24#32, 3#32)
def k0_off7 (d0 : Dev nD) (c0_i32_436 : BitVec 32) (c1_i32_437 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v613 : BitVec 32 := Scalar.subi v2 c0_i32_436
  let v614 : BitVec 32 := Scalar.addi v613 c1_i32_437
  let c32_i32_445 : BitVec 32 := 32#32
  let c0_i32_446 : BitVec 32 := 0#32
  let v626 : BitVec 1 := Scalar.cmpi .eq c32_i32_445 c0_i32_446
  let c1_i32_447 : BitVec 32 := 1#32
  let v627 : BitVec 32 := Scalar.select v626 c1_i32_447 c32_i32_445
  let v628 : BitVec 32 := Scalar.remsi v614 v627
  let c0_i32_449 : BitVec 32 := 0#32
  let v630 : BitVec 1 := Scalar.cmpi .slt v628 c0_i32_449
  let c0_i32_450 : BitVec 32 := 0#32
  let v631 : BitVec 1 := Scalar.cmpi .slt v627 c0_i32_450
  let v632 : BitVec 1 := Scalar.xori v630 v631
  let c0_i32_448 : BitVec 32 := 0#32
  let v629 : BitVec 1 := Scalar.cmpi .ne v628 c0_i32_448
  let v633 : BitVec 1 := Scalar.andi v632 v629
  let v634 : BitVec 32 := Scalar.addi v628 v627
  let v635 : BitVec 32 := Scalar.select v633 v634 v628
  let c32_i32_451 : BitVec 32 := 32#32
  let v636 : BitVec 32 := Scalar.muli v635 c32_i32_451
  let c0_i32_458 : BitVec 32 := 0#32
  ![v636.toNat, 0]
def k0_off7_at (r : Fin 14) : BitVec 32 × BitVec 32 :=
  if r.val < 7 then
    if r.val < 3 then
      if r.val < 1 then
        (0#32, 1#32)
      else
        if r.val < 2 then
          (8#32, 1#32)
        else
          (16#32, 1#32)
    else
      if r.val < 5 then
        if r.val < 4 then
          (24#32, 1#32)
        else
          (0#32, 2#32)
      else
        if r.val < 6 then
          (8#32, 2#32)
        else
          (16#32, 2#32)
  else
    if r.val < 10 then
      if r.val < 8 then
        (24#32, 2#32)
      else
        if r.val < 9 then
          (0#32, 3#32)
        else
          (16#32, 3#32)
    else
      if r.val < 12 then
        if r.val < 11 then
          (0#32, 4#32)
        else
          (8#32, 3#32)
      else
        if r.val < 13 then
          (16#32, 4#32)
        else
          (24#32, 3#32)
def k0_dev17 (d0 : Dev nD) : Nat :=
  let c0_i32_482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_481 : BitVec 32 := 1#32
  let v668 : BitVec 32 := Scalar.muli v24 c1_i32_481
  let v669 : BitVec 32 := Scalar.addi c0_i32_482 v668
  v669.toNat
def k0_dev18 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_506 : BitVec 32 := 1#32
  let v701 : BitVec 32 := Scalar.muli v13 c1_i32_506
  let v702 : BitVec 32 := Scalar.addi c0_i32_507 v701
  v702.toNat
def k0_dev19 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_579 : BitVec 32 := 1#32
  let v794 : BitVec 32 := Scalar.muli v24 c1_i32_579
  let v795 : BitVec 32 := Scalar.addi c0_i32_580 v794
  v795.toNat
def k0_dev20 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_604 : BitVec 32 := 1#32
  let v827 : BitVec 32 := Scalar.muli v13 c1_i32_604
  let v828 : BitVec 32 := Scalar.addi c0_i32_605 v827
  v828.toNat
def k0_dev21 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_677 : BitVec 32 := 1#32
  let v920 : BitVec 32 := Scalar.muli v24 c1_i32_677
  let v921 : BitVec 32 := Scalar.addi c0_i32_678 v920
  v921.toNat
def k0_dev22 (d0 : Dev nD) : Nat :=
  let c0_i32_703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_702 : BitVec 32 := 1#32
  let v953 : BitVec 32 := Scalar.muli v13 c1_i32_702
  let v954 : BitVec 32 := Scalar.addi c0_i32_703 v953
  v954.toNat
def k0_dev23 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_775 : BitVec 32 := 1#32
  let v1046 : BitVec 32 := Scalar.muli v24 c1_i32_775
  let v1047 : BitVec 32 := Scalar.addi c0_i32_776 v1046
  v1047.toNat
def k0_dev24 (d0 : Dev nD) : Nat :=
  let c0_i32_801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_800 : BitVec 32 := 1#32
  let v1079 : BitVec 32 := Scalar.muli v13 c1_i32_800
  let v1080 : BitVec 32 := Scalar.addi c0_i32_801 v1079
  v1080.toNat
def k0_dev25 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_873 : BitVec 32 := 1#32
  let v1172 : BitVec 32 := Scalar.muli v24 c1_i32_873
  let v1173 : BitVec 32 := Scalar.addi c0_i32_874 v1172
  v1173.toNat
def k0_dev26 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_898 : BitVec 32 := 1#32
  let v1205 : BitVec 32 := Scalar.muli v13 c1_i32_898
  let v1206 : BitVec 32 := Scalar.addi c0_i32_899 v1205
  v1206.toNat
def k0_dev27 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_971 : BitVec 32 := 1#32
  let v1298 : BitVec 32 := Scalar.muli v24 c1_i32_971
  let v1299 : BitVec 32 := Scalar.addi c0_i32_972 v1298
  v1299.toNat
def k0_dev28 (d0 : Dev nD) : Nat :=
  let c0_i32_997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_996 : BitVec 32 := 1#32
  let v1331 : BitVec 32 := Scalar.muli v13 c1_i32_996
  let v1332 : BitVec 32 := Scalar.addi c0_i32_997 v1331
  v1332.toNat
def k0_dev29 (d0 : Dev nD) : Nat :=
  let c0_i32_1070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1069 : BitVec 32 := 1#32
  let v1424 : BitVec 32 := Scalar.muli v24 c1_i32_1069
  let v1425 : BitVec 32 := Scalar.addi c0_i32_1070 v1424
  v1425.toNat
def k0_dev30 (d0 : Dev nD) : Nat :=
  let c0_i32_1095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1094 : BitVec 32 := 1#32
  let v1457 : BitVec 32 := Scalar.muli v13 c1_i32_1094
  let v1458 : BitVec 32 := Scalar.addi c0_i32_1095 v1457
  v1458.toNat
def k0_dev31 (d0 : Dev nD) : Nat :=
  let c0_i32_1168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1167 : BitVec 32 := 1#32
  let v1550 : BitVec 32 := Scalar.muli v24 c1_i32_1167
  let v1551 : BitVec 32 := Scalar.addi c0_i32_1168 v1550
  v1551.toNat
def k0_dev32 (d0 : Dev nD) : Nat :=
  let c0_i32_1193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1192 : BitVec 32 := 1#32
  let v1583 : BitVec 32 := Scalar.muli v13 c1_i32_1192
  let v1584 : BitVec 32 := Scalar.addi c0_i32_1193 v1583
  v1584.toNat
def k0_dev33 (d0 : Dev nD) : Nat :=
  let c0_i32_1265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1264 : BitVec 32 := 1#32
  let v1676 : BitVec 32 := Scalar.muli v24 c1_i32_1264
  let v1677 : BitVec 32 := Scalar.addi c0_i32_1265 v1676
  v1677.toNat
def k0_dev34 (d0 : Dev nD) : Nat :=
  let c0_i32_1290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1289 : BitVec 32 := 1#32
  let v1709 : BitVec 32 := Scalar.muli v13 c1_i32_1289
  let v1710 : BitVec 32 := Scalar.addi c0_i32_1290 v1709
  v1710.toNat
def k0_dev35 (d0 : Dev nD) : Nat :=
  let c0_i32_1363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1362 : BitVec 32 := 1#32
  let v1802 : BitVec 32 := Scalar.muli v24 c1_i32_1362
  let v1803 : BitVec 32 := Scalar.addi c0_i32_1363 v1802
  v1803.toNat
def k0_dev36 (d0 : Dev nD) : Nat :=
  let c0_i32_1388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1387 : BitVec 32 := 1#32
  let v1835 : BitVec 32 := Scalar.muli v13 c1_i32_1387
  let v1836 : BitVec 32 := Scalar.addi c0_i32_1388 v1835
  v1836.toNat
abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Program.lean ====
/-
# The kernel's program as a list of transfers

The kernel all-gathers the 32 row blocks of `x` and then multiplies by its own columns of `w`. Between its short opening
(five signals, one wait, the store of its own block) and its short ending (three loads, the result's store) the body is a
straight line of 93 transfer operations: 31 starts, 31 waits for arrivals, 31 waits for departures. This module writes
that line down as a list of tagged operations over the printed addresses and states that the body is the opening, the
list, and the ending.
-/
module

public import proofs.«01_k».proof.Proof.Gen.KernelIdeal
public import proofs.«01_k».proof.Proof.Gen.KernelIdeal.Skeleton

@[expose] public section

noncomputable section

namespace Cert.AllGather

open Cert.KernelIdeal Cert.KernelIdeal.Gen
open Idealize.ShloMosaic Idealize.ShloMosaic.TcCoe Idealize.SL.Sem

/-- What a transfer operation of the list is about: the start of transfer `t`, the wait for the arrival of the incoming
    copy of transfer `t`, the wait for the departure of the outgoing one. -/
inductive Tag where
  | start (t : Fin 31) | recv (t : Fin 31) | sent (t : Fin 31)
deriving DecidableEq

/-- The rows a transfer operation names: an offset into the gathered array per device, inside it. -/
structure Rows where
  off : Dev nD → Fin 2 → Nat
  inb : ∀ d a, off d a + S32x1024.size a ≤ S1024x1024.size a

/-- The gathered array's rows of a transfer operation on device `d`. -/
def Rows.mem (s : Rows) (d : Dev nD) : Memref sig .tc .vmem S32x1024 .f32 :=
  (Memref.whole cc0_scratch0 : Memref sig .tc .vmem S1024x1024 .f32).slice (Rect.unit (s := S1024x1024) (s.off d) S32x1024.size (s.inb d)) (fun _ => rfl)

/-- A transfer operation: start a copy of these rows to the same rows of the device `tgt d`, or wait on one semaphore for
    these rows' worth of credit. -/
inductive Op where
  | start (s : Rows) (tgt : Dev nD → Dev nD) (ss rs : DmaSem sig)
  | wait (s : Rows) (sm : DmaSem sig)

variable {F : FTy → Type} [FloatOps F]

/-- The program of one transfer operation on device `d`, followed by `k`. -/
def Op.run (d : Dev nD) (k : Prog (TpuEff nD τ sig (Elt F) Λ₀ .tc) PUnit) : Op → Prog (TpuEff nD τ sig (Elt F) Λ₀ .tc) PUnit
  | .start s tgt ss rs =>
    .op (.enqueueDma (s.mem d) (.remote (Dev.tc (tgt d)) (s.mem d) (.dma ss)) (.dma rs) (View.wordExact_bits rfl) (View.wordExact_bits rfl) ⟨⟨rfl, Or.inl rfl⟩, trivial⟩) fun _ => k
  | .wait s sm => .op (.waitDma2 sm (s.mem d) (s.mem d) (View.wordExact_bits rfl) (View.wordExact_bits rfl)) fun _ => k

/-- A list of transfer operations run in order on device `d`, then `k`. -/
def runOps (d : Dev nD) (k : Prog (TpuEff nD τ sig (Elt F) Λ₀ .tc) PUnit) : List (Tag × Op) → Prog (TpuEff nD τ sig (Elt F) Λ₀ .tc) PUnit
  | [] => k
  | p :: ps => p.2.run d (runOps d k ps)

/-! ## The printed addresses -/

/-- The sender's own rows; -/
def ownRows : Rows := ⟨k0_off2, k0_off2_inb⟩
/-- the rows copied to the right at step `k`, -/
def rightRows (k : Fin 14) : Rows := ⟨fun d => k0_off3 d (k0_off3_at k).1 (k0_off3_at k).2, fun d => k0_off3_inb d k⟩
/-- to the left at step `k`; -/
def leftRows (k : Fin 14) : Rows := ⟨fun d => k0_off4 d (k0_off4_at k).1 (k0_off4_at k).2, fun d => k0_off4_inb d k⟩
/-- the rows the `i`-th far copy brings, -/
def farRows (i : Fin 3) : Rows := ⟨fun d => k0_off5 d (BitVec.ofNat 32 (8 + 8 * i.val)), fun d => k0_off5_inb d i⟩
/-- the rows arriving from the left, the `j`-th such wait, -/
def fromLeftRows (j : Fin 14) : Rows := ⟨fun d => k0_off6 d (k0_off6_at j).1 (k0_off6_at j).2, fun d => k0_off6_inb d j⟩
/-- and from the right. -/
def fromRightRows (j : Fin 14) : Rows := ⟨fun d => k0_off7 d (k0_off7_at j).1 (k0_off7_at j).2, fun d => k0_off7_inb d j⟩

/-- Where step `k`'s semaphore lies in a four by four array. -/
def gridAt : Fin 14 → Fin 2 → Nat :=
  ![![0, 0], ![1, 0], ![2, 0], ![3, 0], ![0, 1], ![1, 1], ![2, 1], ![3, 1], ![0, 2], ![1, 2], ![2, 2], ![3, 2], ![0, 3], ![2, 3]]
theorem gridAt_inb : ∀ k a, gridAt k a + S1x1.size a ≤ S4x4.size a := by decide
theorem lineAt_inb : ∀ (i : Fin 3) a, (![i.val] : Fin 1 → Nat) a + S1.size a ≤ S3.size a := by decide

/-- Step `k`'s semaphore of a four by four array; -/
def gridSem (a : DmaSems sig S4x4) (k : Fin 14) : DmaSem sig :=
  ((a.slice (Rect.unit (s := S4x4) (gridAt k) S1x1.size (gridAt_inb k))).squeeze S_ squeezes_S1x1_S_).sem
/-- far copy `i`'s of an array of three. -/
def lineSem (a : DmaSems sig S3) (i : Fin 3) : DmaSem sig :=
  ((a.slice (Rect.unit (s := S3) ![i.val] S1.size (lineAt_inb i))).squeeze S_ squeezes_S1_S_).sem

/-- The device each of the 31 starts addresses. -/
def target : Fin 31 → Dev nD → Dev nD :=
  ![fun d => ⟨k0_dev6 d, k0_dev6_lt d⟩, fun d => ⟨k0_dev7 d, k0_dev7_lt d⟩, fun d => ⟨k0_dev8 d, k0_dev8_lt d⟩,
    fun d => ⟨k0_dev9 d, k0_dev9_lt d⟩, fun d => ⟨k0_dev10 d, k0_dev10_lt d⟩, fun d => ⟨k0_dev11 d, k0_dev11_lt d⟩,
    fun d => ⟨k0_dev12 d, k0_dev12_lt d⟩, fun d => ⟨k0_dev13 d, k0_dev13_lt d⟩, fun d => ⟨k0_dev14 d, k0_dev14_lt d⟩,
    fun d => ⟨k0_dev15 d, k0_dev15_lt d⟩, fun d => ⟨k0_dev16 d, k0_dev16_lt d⟩, fun d => ⟨k0_dev17 d, k0_dev17_lt d⟩,
    fun d => ⟨k0_dev18 d, k0_dev18_lt d⟩, fun d => ⟨k0_dev19 d, k0_dev19_lt d⟩, fun d => ⟨k0_dev20 d, k0_dev20_lt d⟩,
    fun d => ⟨k0_dev21 d, k0_dev21_lt d⟩, fun d => ⟨k0_dev22 d, k0_dev22_lt d⟩, fun d => ⟨k0_dev23 d, k0_dev23_lt d⟩,
    fun d => ⟨k0_dev24 d, k0_dev24_lt d⟩, fun d => ⟨k0_dev25 d, k0_dev25_lt d⟩, fun d => ⟨k0_dev26 d, k0_dev26_lt d⟩,
    fun d => ⟨k0_dev27 d, k0_dev27_lt d⟩, fun d => ⟨k0_dev28 d, k0_dev28_lt d⟩, fun d => ⟨k0_dev29 d, k0_dev29_lt d⟩,
    fun d => ⟨k0_dev30 d, k0_dev30_lt d⟩, fun d => ⟨k0_dev31 d, k0_dev31_lt d⟩, fun d => ⟨k0_dev32 d, k0_dev32_lt d⟩,
    fun d => ⟨k0_dev33 d, k0_dev33_lt d⟩, fun d => ⟨k0_dev34 d, k0_dev34_lt d⟩, fun d => ⟨k0_dev35 d, k0_dev35_lt d⟩,
    fun d => ⟨k0_dev36 d, k0_dev36_lt d⟩]

/-! ## The list -/

/-- Far copy `i` is transfer `i`; step `k` to the right is transfer `3 + 2 * k`, to the left transfer `4 + 2 * k`. -/
abbrev farT (i : Fin 3) : Fin 31 := ⟨i.val, by omega⟩
abbrev rightT (k : Fin 14) : Fin 31 := ⟨3 + 2 * k.val, by omega⟩
abbrev leftT (k : Fin 14) : Fin 31 := ⟨4 + 2 * k.val, by omega⟩

/-- Start the three far copies; start step `k`'s pair; -/
def startFar (i : Fin 3) : List (Tag × Op) := [(.start (farT i), .start ownRows (target (farT i)) (lineSem cc0_scratch5 i) (lineSem cc0_scratch6 i))]
def startPair (k : Fin 14) : List (Tag × Op) :=
  [(.start (rightT k), .start (rightRows k) (target (rightT k)) (gridSem cc0_scratch1 k) (gridSem cc0_scratch2 k)),
    (.start (leftT k), .start (leftRows k) (target (leftT k)) (gridSem cc0_scratch3 k) (gridSem cc0_scratch4 k))]
/-- wait for a far copy's arrival; for step `k`'s two, the `j`-th such waits; -/
def recvFar (i : Fin 3) : List (Tag × Op) := [(.recv (farT i), .wait (farRows i) (lineSem cc0_scratch6 i))]
def recvPair (j k : Fin 14) : List (Tag × Op) :=
  [(.recv (rightT k), .wait (fromLeftRows j) (gridSem cc0_scratch2 k)), (.recv (leftT k), .wait (fromRightRows j) (gridSem cc0_scratch4 k))]
/-- wait for a far copy's departure; for step `k`'s two. -/
def sentFar (i : Fin 3) : List (Tag × Op) := [(.sent (farT i), .wait ownRows (lineSem cc0_scratch5 i))]
def sentPair (k : Fin 14) : List (Tag × Op) :=
  [(.sent (rightT k), .wait (rightRows k) (gridSem cc0_scratch1 k)), (.sent (leftT k), .wait (leftRows k) (gridSem cc0_scratch3 k))]

/-- The 93 transfer operations in program order. -/
def ops : List (Tag × Op) :=
  startFar 0 ++ startFar 1 ++ startFar 2 ++ startPair 0
  ++ recvFar 0 ++ startPair 1 ++ recvFar 1 ++ startPair 2 ++ recvFar 2 ++ startPair 3
  ++ recvPair 0 0 ++ startPair 4 ++ recvPair 1 1 ++ startPair 5 ++ recvPair 2 2 ++ startPair 6 ++ recvPair 3 3 ++ startPair 7
  ++ recvPair 4 4 ++ startPair 8 ++ recvPair 5 5 ++ startPair 9 ++ recvPair 6 6 ++ startPair 10 ++ recvPair 7 7 ++ startPair 11
  ++ recvPair 8 8 ++ startPair 12 ++ recvPair 9 10 ++ startPair 13
  ++ recvPair 10 12 ++ recvPair 11 9 ++ recvPair 12 13 ++ recvPair 13 11
  ++ sentFar 0 ++ sentFar 1 ++ sentFar 2
  ++ sentPair 0 ++ sentPair 1 ++ sentPair 2 ++ sentPair 3 ++ sentPair 4 ++ sentPair 5 ++ sentPair 6
  ++ sentPair 7 ++ sentPair 8 ++ sentPair 9 ++ sentPair 10 ++ sentPair 11 ++ sentPair 12 ++ sentPair 13

/-! ## The opening and the ending -/

abbrev xM : Memref sig .tc .vmem S32x1024 .f32 := Memref.whole cc0_stg0_0
abbrev wM : Memref sig .tc .vmem S1024x32 .f32 := Memref.whole cc0_stg1_0
abbrev oM : Memref sig .tc .vmem S1024x32 .f32 := Memref.whole cc0_stg2_0
abbrev gM : Memref sig .tc .vmem S1024x1024 .f32 := Memref.whole cc0_scratch0

/-- The runtime's barrier semaphore. -/
abbrev barS : Sem sig := (SemArray.scalar (sig.barrier 0 rfl) : Sems sig S_).sem

/-- The rectangle of a device's own rows, as the opening's store names it. -/
abbrev ownRect (d : Dev nD) : Rect S1024x1024 := Rect.unit (s := S1024x1024) (k0_off1 d) S32x1024.size (k0_off1_inb d)

/-- The opening on device `d`: five signals, the wait for five, the device's own block stored in the gathered array. -/
def opening (d : Dev nD) (k : Prog (TpuEff nD τ sig (Elt F) Λ₀ .tc) PUnit) : Prog (TpuEff nD τ sig (Elt F) Λ₀ .tc) PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semSignalWord (⟨k0_dev4 d, k0_dev4_lt d⟩ : Dev nD) barS 1#32
  semSignalWord (⟨k0_dev5 d, k0_dev5_lt d⟩ : Dev nD) barS 1#32
  semWaitWord barS 5#32
  let v : Vec F S32x1024 .f32 ← Prog.lift (.load xM (Rect.unit (s := S32x1024) ![0, 0] S32x1024.size inb_S32x1024_S32x1024_0_0).toLoadRect (View.loadsAt_vmem h_S32x1024))
  let _ : Vec F S32x1024 .f32 ← Prog.lift (.load gM (ownRect d).toLoadRect (View.loadsAt_vmem h_S32x1024))
  Prog.lift (.store gM (ownRect d) (k0_pay2 v) Finset.univ (View.stores_vmem_bits_univ h_S32x1024 rfl) (.inl rfl))
  k

/-- The ending: the gathered array and the device's columns of `w` loaded, the result stored. -/
def ending : Prog (TpuEff nD τ sig (Elt F) Λ₀ .tc) PUnit := do
  let v : Vec F S1024x1024 .f32 ← Prog.lift (.load gM (Rect.unit (s := S1024x1024) ![0, 0] S1024x1024.size inb_S1024x1024_S1024x1024_0_0).toLoadRect (View.loadsAt_vmem h_S1024x1024))
  let w : Vec F S1024x32 .f32 ← Prog.lift (.load wM (Rect.unit (s := S1024x32) ![0, 0] S1024x32.size inb_S1024x32_S1024x32_0_0).toLoadRect (View.loadsAt_vmem h_S1024x32))
  let _ : Vec F S1024x32 .f32 ← Prog.lift (.load oM (Rect.unit (s := S1024x32) ![0, 0] S1024x32.size inb_S1024x32_S1024x32_0_0).toLoadRect (View.loadsAt_vmem h_S1024x32))
  Prog.lift (.store oM (Rect.unit (s := S1024x32) ![0, 0] S1024x32.size inb_S1024x32_S1024x32_0_0) (k0_pay1 v w) Finset.univ (View.stores_vmem_bits_univ h_S1024x32 rfl) (.inl rfl))
  pure ⟨⟩

set_option maxRecDepth 100000 in
set_option maxHeartbeats 4000000 in
/-- The kernel's body at the launch's buffers is the opening, the 93 transfer operations, the ending. -/
theorem body_eq : cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6
    = .op .deviceId fun d => opening d (runOps d ending ops) := rfl

end Cert.AllGather

end
-- ==== Proof.Tables.lean ====
/-
# The transfers' tables

Transfer `t` of device `c` copies the rows of block `c + so t` to device `c + tg t`; the copy of transfer `t` that device
`c` receives lands in the rows of block `c + ro t`. This module states those three tables, the semaphores and the order
in which the arrivals depend on one another, and checks the program's list of operations against them.
-/
module

public import proofs.«01_k».proof.Proof.Program

@[expose] public section

noncomputable section

namespace Cert.AllGather

open Cert.KernelIdeal Cert.KernelIdeal.Gen
open Idealize.ShloMosaic Idealize.ShloMosaic.TcCoe Idealize.SL.Sem

/-- Which block transfer `t` copies, counted from the sender; -/
def so : Fin 31 → Dev nD :=
  ![0, 0, 0, 0, 0, 24, 24, 16, 16, 8, 8, 31, 1, 23, 25, 15, 17, 7, 9, 30, 2, 22, 26, 14, 18, 6, 10, 29, 3, 13, 19]
/-- which device it goes to, counted from the sender; -/
def tg : Fin 31 → Dev nD :=
  ![8, 16, 24, 1, 31, 1, 31, 1, 31, 1, 31, 1, 31, 1, 31, 1, 31, 1, 31, 1, 31, 1, 31, 1, 31, 1, 31, 1, 31, 1, 31]
/-- which block it brings, counted from the receiver. -/
def ro : Fin 31 → Dev nD :=
  ![24, 16, 8, 31, 1, 23, 25, 15, 17, 7, 9, 30, 2, 22, 26, 14, 18, 6, 10, 29, 3, 21, 27, 13, 19, 5, 11, 28, 4, 12, 20]
/-- The level of its arrival: above that of every arrival its sender waits for first. -/
def rlv : Fin 31 → ℕ :=
  ![2, 2, 2, 3, 3, 3, 3, 3, 3, 3, 3, 4, 4, 4, 4, 4, 4, 4, 4, 5, 5, 5, 5, 5, 5, 5, 5, 6, 6, 6, 6]
/-- Its departure's semaphore on the sender; -/
def sendSem : Fin 31 → DmaSem sig :=
  (![67, 68, 69, 3, 35, 7, 39, 11, 43, 15, 47, 4, 36, 8, 40, 12, 44, 16, 48, 5, 37, 9, 41, 13, 45, 17, 49, 6, 38, 14, 46] : Fin 31 → Fin 73)
/-- its arrival's on the receiver. -/
def recvSem : Fin 31 → DmaSem sig :=
  (![70, 71, 72, 19, 51, 23, 55, 27, 59, 31, 63, 20, 52, 24, 56, 28, 60, 32, 64, 21, 53, 25, 57, 29, 61, 33, 65, 22, 54, 30, 62] : Fin 31 → Fin 73)
/-- The eight semaphores of the four by four arrays that no step uses. -/
def spareSem : Fin 8 → DmaSem sig := (![10, 18, 26, 34, 42, 50, 58, 66] : Fin 8 → Fin 73)
/-- Where the five signals go, counted from the signalling device. -/
def sgn : Fin 5 → Dev nD := ![31, 1, 8, 24, 16]

theorem add_tg_ro : ∀ c t, c + tg t + ro t = c + so t := by decide +kernel
theorem so_zero_or : ∀ t, so t = 0 ∨ ∃ s, ro s = so t := by decide +kernel
theorem ro_injective : Function.Injective ro := by decide +kernel

/-- The transfers whose target is the device `p`-th signalled from the other side: those that write to the payer of the
    barrier's duty `p`. -/
def payees (p : Fin 5) : Finset (Fin 31) := Finset.univ.filter fun t => tg t + sgn p = 0
/-- The duty whose payer transfer `t` writes to. -/
def dutyOf (t : Fin 31) : Fin 5 := if tg t = 1 then 0 else if tg t = 31 then 1 else if tg t = 24 then 2 else if tg t = 8 then 3 else 4
theorem payees_eq : ∀ p, payees p = Finset.univ.filter fun t => dutyOf t = p := by decide +kernel

/-- The transfers that copy block `v`, counted from the sender. -/
def users (v : Dev nD) : Finset (Fin 31) := Finset.univ.filter fun t => so t = v

/-- The blocks no transfer copies are brought by the arrivals nothing passes on. -/
theorem unused_eq : (Finset.univ.filter fun t => users (ro t) = ∅).image ro = Finset.univ.filter fun v => users v = ∅ := by decide +kernel

/-- The operation `o` is what its tag says: it names the block, the device and the semaphores of the tables. -/
def matchesB : Tag → Op → Bool
  | .start t, .start s tgt ss rs =>
    decide (∀ d, s.off d = ![32 * (d + so t).val, 0]) && decide (∀ d, tgt d = d + tg t) && decide (ss = sendSem t) && decide (rs = recvSem t)
  | .recv t, .wait _ sm => decide (sm = recvSem t)
  | .sent t, .wait _ sm => decide (sm = sendSem t)
  | _, _ => false

set_option maxRecDepth 100000 in
theorem ops_match : (ops.all fun p => matchesB p.1 p.2) = true := by decide +kernel

/-- The transfers a device may start after starting those in `A` and receiving those in `B`: not yet started, their block
    its own or already there. -/
def ready (A B : Finset (Fin 31)) : Finset (Fin 31) := Finset.univ.filter fun t => (so t = 0 ∨ ∃ s ∈ B, ro s = so t) ∧ t ∉ A

/-- The list of tags runs: from `A` started, `B` received, `C` known sent, each start is ready, each arrival is waited for
    before none below its level is left to start, each departure after all starts, and at the end all is done. -/
def runsB : Finset (Fin 31) → Finset (Fin 31) → Finset (Fin 31) → List Tag → Bool
  | A, B, C, [] => decide (A = Finset.univ) && decide (B = Finset.univ) && decide (C = Finset.univ)
  | A, B, C, .start t :: l => decide (t ∈ ready A B) && decide (t ∉ C) && runsB (insert t A) B C l
  | A, B, C, .recv t :: l => decide (t ∉ B) && decide (∀ u, u ∉ A → rlv t < rlv u) && decide (Disjoint (users (ro t)) A) && runsB A (insert t B) C l
  | A, B, C, .sent t :: l => decide (A = Finset.univ) && decide (t ∉ C) && runsB A B (insert t C) l

set_option maxRecDepth 100000 in
theorem ops_run : runsB ∅ ∅ ∅ (ops.map Prod.fst) = true := by decide +kernel

theorem ready_start (A B : Finset (Fin 31)) (t : Fin 31) : ready (insert t A) B = (ready A B).erase t := by
  ext u; simp only [ready, Finset.mem_filter, Finset.mem_univ, true_and, Finset.mem_erase, Finset.mem_insert]; tauto

theorem ready_recv (A B : Finset (Fin 31)) (t : Fin 31) (h : Disjoint (users (ro t)) A) :
    ready A (insert t B) = ready A B ∪ users (ro t) := by
  ext u
  have hu : u ∈ users (ro t) → u ∉ A := fun h1 h2 => Finset.disjoint_left.mp h h1 h2
  simp only [users, Finset.mem_filter, Finset.mem_univ, true_and] at hu
  simp only [ready, users, Finset.mem_union, Finset.mem_filter, Finset.mem_univ, true_and, Finset.mem_insert, exists_eq_or_imp]
  constructor
  · rintro ⟨h1 | h1 | h1, h2⟩
    · exact Or.inl ⟨Or.inl h1, h2⟩
    · exact Or.inr h1.symm
    · exact Or.inl ⟨Or.inr h1, h2⟩
  · rintro (⟨h1 | h1, h2⟩ | h1)
    · exact ⟨Or.inl h1, h2⟩
    · exact ⟨Or.inr (Or.inr h1), h2⟩
    · exact ⟨Or.inr (Or.inl h1.symm), hu h1⟩

theorem ready_disjoint (A B : Finset (Fin 31)) (t : Fin 31) (h : t ∉ B) (h0 : ∀ t, ro t ≠ 0) : Disjoint (ready A B) (users (ro t)) := by
  refine Finset.disjoint_left.mpr fun u h1 h2 => ?_
  simp only [ready, users, Finset.mem_filter, Finset.mem_univ, true_and] at h1 h2
  rcases h1.1 with h3 | ⟨s, hs, h3⟩
  · exact h0 t (h2 ▸ h3)
  · exact h (ro_injective (h3.trans h2) ▸ hs)
theorem ro_ne_zero : ∀ t, ro t ≠ 0 := by decide +kernel

end Cert.AllGather

end
-- ==== Proof.Protocol.lean ====
/-
# The protocol

The gathered array of a device is held slot by slot, slot `j` the 32 rows of device `j`'s block. A device's barrier cell
has five duties, one for each device that signals it, each bringing the slots of the payer that this device will write.
The send cell of a transfer brings back the share of the source rows the copy read, the receive cell the slot the copy
filled. This module states the schedule, the levels and the arithmetic of what is owed.
-/
module

public import proofs.«01_k».proof.Proof.Tables
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Cells -/

/-- A device's cells: its barrier's, one per outgoing copy, one per incoming copy. -/
abbrev CK : Type := Unit ⊕ (Fin 31 ⊕ Fin 31)
def csem : CK → SemLoc sig
  | .inl _ => .reg barS
  | .inr (.inl t) => .dma (sendSem t)
  | .inr (.inr t) => .dma (recvSem t)
def kcell (ck : Dev nD × CK) : GSem nD τ sig := ((ck.1 : Thread nD τ), csem ck.2)
abbrev barCell (c : Dev nD) : GSem nD τ sig := kcell (c, .inl ())
abbrev sendCell (c : Dev nD) (t : Fin 31) : GSem nD τ sig := kcell (c, .inr (.inl t))
abbrev recvCell (c : Dev nD) (t : Fin 31) : GSem nD τ sig := kcell (c, .inr (.inr t))

/-- What a semaphore is to the protocol. -/
def cls : SemLoc sig → Option CK
  | .reg s => if s = barS then some (.inl ()) else none
  | .dma q => match (List.finRange 31).find? (fun t => decide (sendSem t = q)) with
    | some t => some (.inr (.inl t))
    | none => match (List.finRange 31).find? (fun t => decide (recvSem t = q)) with
      | some t => some (.inr (.inr t))
      | none => none
theorem cls_csem : ∀ k, cls (csem k) = some k := by decide +kernel

theorem csem_injective : Function.Injective csem := fun a b h => by
  have := congrArg cls h; rw [cls_csem, cls_csem] at this; exact Option.some.inj this
theorem kcell_injective : Function.Injective kcell := by
  rintro ⟨c, k⟩ ⟨c', k'⟩ h
  have h1 : c = c' := congrArg (fun g : GSem nD τ sig => g.1.1) h
  have h2 : k = k' := csem_injective (congrArg (fun g : GSem nD τ sig => g.2) h)
  rw [h1, h2]
theorem kcell_cls (ck : Dev nD × CK) : cls (kcell ck).2 = some ck.2 := cls_csem ck.2

/-! ## Slots -/

theorem slot_inb (j : Dev nD) : ∀ a, (![32 * j.val, 0] : Fin 2 → Nat) a + S32x1024.size a ≤ S1024x1024.size a := by
  revert j; decide +kernel
/-- Slot `j` of the gathered array: the rows of device `j`'s block. -/
abbrev slotRect (j : Dev nD) : Rect S1024x1024 := Rect.unit (s := S1024x1024) ![32 * j.val, 0] S32x1024.size (slot_inb j)
abbrev slotMem (j : Dev nD) : Memref sig .tc .vmem S32x1024 .f32 := gM.slice (slotRect j) (fun _ => rfl)

theorem Rows.mem_eq (s : Rows) (d j : Dev nD) (h : s.off d = ![32 * j.val, 0]) : s.mem d = slotMem j := by
  have key : ∀ (o : Fin 2 → Nat) (i : ∀ a, o a + S32x1024.size a ≤ S1024x1024.size a), o = ![32 * j.val, 0] →
      (gM.slice (Rect.unit (s := S1024x1024) o S32x1024.size i) (fun _ => rfl) : Memref sig .tc .vmem S32x1024 .f32) = slotMem j := by
    intro o i h; subst h; rfl
  exact key _ _ h

abbrev N : ℕ := (slotMem 0).view.dmaCredit
theorem N_pos : 0 < N := View.dmaCredit_pos _ (by decide)
theorem credit_eq (s : Rows) (d : Dev nD) : (s.mem d).view.dmaCredit = N := rfl

/-- The contents of device `c`'s block of `x` as staged; -/
def xstg (c : Dev nD) : (cc0_stg0_0 : Ref sig .tc).ty.Contents (Elt F) :=
  (win0_0.blk (0 : Fin 1)).view.read (Elt F) (m ((c : Thread nD τ).loc main_arg0))
/-- of its columns of `w`; -/
def wstg (c : Dev nD) : (cc0_stg1_0 : Ref sig .tc).ty.Contents (Elt F) :=
  (win0_1.blk (0 : Fin 1)).view.read (Elt F) (m ((c : Thread nD τ).loc main_arg1))
/-- of the whole gathered array: row `r` is row `r % 32` of the block of device `r / 32`. -/
def gath : (cc0_scratch0 : Ref sig .tc).ty.Contents (Elt F) := fun i =>
  xstg m (⟨(i 0).val / 32, by have h : (i 0).val < 1024 := (i 0).isLt; show _ < 32; omega⟩)
    (Shape.pair (⟨(i 0).val % 32, Nat.mod_lt _ (by decide)⟩ : Fin 32) (⟨(i 1).val, (i 1).isLt⟩ : Fin 1024))

/-- Slot `j` of device `c`'s gathered array, at share `q`, with the contents `f` there. -/
def slot (c j : Dev nD) (q : PosShare TreeShare) (f : (cc0_scratch0 : Ref sig .tc).ty.Contents (Elt F)) : sProp 𝕄 :=
  (slotMem j).view.loc (c : Thread nD τ) ↦[(slotMem j).view.set]{q} f

omit [FloatOps F] in
theorem slot_eq (c j : Dev nD) (q : PosShare TreeShare) (f : (cc0_scratch0 : Ref sig .tc).ty.Contents (Elt F)) :
    (slot c j q f : sProp 𝕄) = (((c : Thread nD τ).loc cc0_scratch0) ↦[(slotMem j).view.set]{q} f) := rfl

instance slot_storable (c j : Dev nD) (q : PosShare TreeShare) (f : (cc0_scratch0 : Ref sig .tc).ty.Contents (Elt F)) :
    BI.Storable (upEmb : UEmb _ 𝕄) (slot c j q f) := by rw [slot_eq]; infer_instance

/-- Transfer `t`'s share of the block it copies: the block's transfers share it. -/
def shr (t : Fin 31) : PosShare TreeShare := dealOf fullShare (users (so t)) t

omit [FloatOps F] in
/-- A slot held outright is the shares of the transfers that copy it. -/
theorem slot_deal (c v : Dev nD) (h : (users v).Nonempty) (f : (cc0_scratch0 : Ref sig .tc).ty.Contents (Elt F)) :
    (slot c (c + v) fullShare f : sProp 𝕄) = bigSep (users v) fun t => slot c (c + so t) (shr t) f := by
  simp only [slot_eq]
  rw [pointsTo_deal (users v) h fullShare]
  refine bigSep_congr fun t ht => ?_
  have : so t = v := (Finset.mem_filter.mp ht).2
  subst this
  rfl

omit [FloatOps F] in
/-- Copying a slot onto the same slot of any array leaves it with the source's contents there. -/
theorem slot_copied (c j : Dev nD) (q : PosShare TreeShare) (fd fs : (cc0_scratch0 : Ref sig .tc).ty.Contents (Elt F)) :
    (slot c j q ((slotMem j).view.write (Elt F) fd ((slotMem j).view.read (Elt F) fs) Finset.univ) : sProp 𝕄) = slot c j q fs := by
  rw [slot_eq, slot_eq]
  refine pointsTo_congr fun i hi => ?_
  obtain ⟨x, -, hx⟩ := Finset.mem_map.mp hi
  subst hx
  exact (View.write_emb_of_mem (v := (slotMem j).view) fd _ (Finset.mem_univ x)).trans rfl

section Big
variable {I : Type} [DecidableEq I]
omit [FloatOps F] in
theorem big_erase {s : Finset I} {i : I} (h : i ∈ s) {Φ : I → sProp 𝕄} : bigSep s Φ = iprop(Φ i ∗ bigSep (s.erase i) Φ) := bigSep_erase h
omit [FloatOps F] in
theorem big_insert {s : Finset I} {i : I} (h : i ∉ s) {Φ : I → sProp 𝕄} : bigSep (insert i s) Φ = iprop(Φ i ∗ bigSep s Φ) := bigSep_insert h
omit [FloatOps F] in
theorem big_union {s t : Finset I} (h : Disjoint s t) {Φ : I → sProp 𝕄} : bigSep (s ∪ t) Φ = iprop(bigSep s Φ ∗ bigSep t Φ) := bigSep_union h
omit [FloatOps F] in
theorem big_split (s : Finset I) (p : I → Prop) [DecidablePred p] {Φ : I → sProp 𝕄} :
    bigSep s Φ = iprop(bigSep (s.filter p) Φ ∗ bigSep (s.filter fun i => ¬ p i) Φ) := bigSep_filter_split s p
omit [FloatOps F] in
theorem big_empty {Φ : I → sProp 𝕄} : bigSep ∅ Φ = iprop(emp) := bigSep_empty
end Big

omit [FloatOps F] in
/-- A product over all indices, fibre by fibre of a map. -/
theorem bigSep_fibre {I J : Type} [Fintype I] [DecidableEq I] [Fintype J] [DecidableEq J] (f : I → J) (Φ : I → sProp 𝕄) :
    bigSep Finset.univ Φ = bigSep Finset.univ fun j => bigSep (Finset.univ.filter fun i => f i = j) Φ := by
  rw [← bigSep_biUnion_eq Finset.univ (fun j => Finset.univ.filter fun i => f i = j) Φ
    (fun a _ b _ hab => Finset.disjoint_left.mpr fun i h1 h2 => hab ((Finset.mem_filter.mp h1).2.symm.trans (Finset.mem_filter.mp h2).2))]
  congr 1
  ext i; simp

/-! ## The schedule -/

/-- What the payer of device `d`'s barrier duty `p` hands it: the payer's slots that `d`'s transfers write. -/
def barPay (d : Dev nD) (p : Fin 5) : sProp 𝕄 := bigSep (payees p) fun t => iprop(∃ f, slot (d + tg t) (d + so t) fullShare f)
def sendPay (c : Dev nD) (t : Fin 31) : sProp 𝕄 := slot c (c + so t) (shr t) (gath m)
def recvPay (c : Dev nD) (t : Fin 31) : sProp 𝕄 := slot c (c + ro t) fullShare (gath m)

instance barPay_storable (d : Dev nD) (p : Fin 5) : BI.Storable (upEmb : UEmb _ 𝕄) (barPay (F := F) d p) := by unfold barPay; infer_instance
instance sendPay_storable (d : Dev nD) (t : Fin 31) : BI.Storable (upEmb : UEmb _ 𝕄) (sendPay m d t) := by unfold sendPay; infer_instance
instance recvPay_storable (d : Dev nD) (t : Fin 31) : BI.Storable (upEmb : UEmb _ 𝕄) (recvPay m d t) := by unfold recvPay; infer_instance

def dutiesOf : Option CK → Finset (Fin 5)
  | some (.inl _) => Finset.univ
  | some (.inr _) => {0}
  | none => ∅
def amountOf : Option CK → ℕ
  | some (.inl _) => 1
  | _ => N
def payOf (c : Dev nD) (p : Fin 5) : Option CK → sProp 𝕄
  | some (.inl _) => barPay c p
  | some (.inr (.inl t)) => sendPay m c t
  | some (.inr (.inr t)) => recvPay m c t
  | none => iprop(emp)

/-- One round: a barrier cell has five duties of one unit, a send or receive cell one duty of a block's credit. -/
def rd : Rounds.Schedule (GSem nD τ sig) (Fin 5) 𝕄 where
  duties g r := if r = 0 ∧ g.1.2 = .tc then dutiesOf (cls g.2) else ∅
  unitless _ := False
  amount g _ _ := amountOf (cls g.2)
  payload g _ p := payOf m g.1.1 p (cls g.2)
  amount_pos g _ _ _ := by
    unfold amountOf
    split
    · exact Nat.one_pos
    · exact N_pos

instance rd_storable (g : GSem nD τ sig) (r : ℕ) (p : Fin 5) : BI.Storable (upEmb : UEmb _ 𝕄) ((rd (F := F) m).payload g r p) := by
  show BI.Storable upEmb (payOf m g.1.1 p (cls g.2))
  generalize cls g.2 = o
  unfold payOf
  split <;> infer_instance

section Sched
variable (c : Dev nD) (t : Fin 31)

omit [FloatOps F] in
theorem duties_bar : (rd (F := F) m).duties (barCell c) 0 = Finset.univ := by
  dsimp only [rd]; rw [if_pos ⟨rfl, rfl⟩, kcell_cls]; rfl
omit [FloatOps F] in
theorem duties_xfer (k : Fin 31 ⊕ Fin 31) : (rd (F := F) m).duties (kcell (c, .inr k)) 0 = {0} := by
  dsimp only [rd]; rw [if_pos ⟨rfl, rfl⟩, kcell_cls]; rfl
omit [FloatOps F] in
theorem duties_later (g : GSem nD τ sig) : ∀ r, 1 ≤ r → (rd (F := F) m).duties g r = ∅ :=
  fun r hr => by dsimp only [rd]; rw [if_neg fun h => by omega]
omit [FloatOps F] in
theorem amount_bar (p : Fin 5) : (rd (F := F) m).amount (barCell c) 0 p = 1 := by dsimp only [rd]; rw [kcell_cls]; rfl
omit [FloatOps F] in
theorem amount_xfer (k : Fin 31 ⊕ Fin 31) (p : Fin 5) : (rd (F := F) m).amount (kcell (c, .inr k)) 0 p = N := by
  dsimp only [rd]; rw [kcell_cls]; rfl
omit [FloatOps F] in
theorem expect_bar : (rd (F := F) m).expect (barCell c) 0 = 5 := by
  unfold Schedule.expect Schedule.amountOf
  rw [duties_bar, Finset.sum_congr rfl fun d _ => amount_bar m c d, Finset.sum_const, Finset.card_univ, Fintype.card_fin, smul_eq_mul]
omit [FloatOps F] in
theorem expect_xfer (k : Fin 31 ⊕ Fin 31) : (rd (F := F) m).expect (kcell (c, .inr k)) 0 = N := by
  unfold Schedule.expect Schedule.amountOf; rw [duties_xfer, Finset.sum_singleton, amount_xfer]
omit [FloatOps F] in
theorem payload_bar (p : Fin 5) : (rd (F := F) m).payload (barCell c) 0 p = barPay c p := by dsimp only [rd]; rw [kcell_cls]; rfl
omit [FloatOps F] in
theorem payload_send (p : Fin 5) : (rd (F := F) m).payload (sendCell c t) 0 p = sendPay m c t := by dsimp only [rd]; rw [kcell_cls]; rfl
omit [FloatOps F] in
theorem payload_recv (p : Fin 5) : (rd (F := F) m).payload (recvCell c t) 0 p = recvPay m c t := by dsimp only [rd]; rw [kcell_cls]; rfl

omit [FloatOps F] in
theorem rest_bar : bigSep ((rd (F := F) m).duties (barCell c) 0 \ ∅) (fun p => (rd (F := F) m).payload (barCell c) 0 p)
    = bigSep Finset.univ fun p => barPay c p := by
  rw [Finset.sdiff_empty, duties_bar]; exact bigSep_congr fun p _ => payload_bar m c p
omit [FloatOps F] in
theorem rest_send : bigSep ((rd (F := F) m).duties (sendCell c t) 0 \ ∅) (fun p => (rd (F := F) m).payload (sendCell c t) 0 p) = sendPay m c t := by
  rw [Finset.sdiff_empty, duties_xfer, bigSep_singleton, payload_send]
omit [FloatOps F] in
theorem rest_recv : bigSep ((rd (F := F) m).duties (recvCell c t) 0 \ ∅) (fun p => (rd (F := F) m).payload (recvCell c t) 0 p) = recvPay m c t := by
  rw [Finset.sdiff_empty, duties_xfer, bigSep_singleton, payload_recv]

omit [FloatOps F] in
/-- Every transfer writes to exactly one payer: what the five hand over is one slot per transfer. -/
theorem bar_all (Φ : Fin 31 → sProp 𝕄) : (bigSep Finset.univ fun p => bigSep (payees p) Φ) = bigSep Finset.univ Φ := by
  rw [bigSep_congr (fun p _ => by rw [payees_eq])]
  exact (bigSep_fibre dutyOf Φ).symm

end Sched

/-! ## What is owed; levels -/

/-- What device `c` owes the receive cells of the transfers in `A`; -/
def owedRecv (c : Dev nD) (A : Finset (Fin 31)) : CellTallies nD τ sig Unit := ∑ t ∈ A, tallyAt (recvCell (c + tg t) t) () N
/-- the barrier cells it signals. -/
def owedBar (c : Dev nD) (P : Finset (Fin 5)) : CellTallies nD τ sig Unit := ∑ p ∈ P, tallyAt (barCell (c + sgn p)) () 1
/-- What it owes at launch. -/
def O₀ (c : Dev nD) : CellTallies nD τ sig Unit := owedRecv c Finset.univ + owedBar c Finset.univ

theorem owedRecv_erase (c : Dev nD) (A : Finset (Fin 31)) (t : Fin 31) (h : t ∈ A) :
    owedRecv c A = owedRecv c (A.erase t) + tallyAt (recvCell (c + tg t) t) () N :=
  (Finset.sum_erase_add A _ h).symm
theorem owedRecv_empty (c : Dev nD) : owedRecv c ∅ = 0 := Finset.sum_empty
theorem owedBar_erase (c : Dev nD) (P : Finset (Fin 5)) (p : Fin 5) (h : p ∈ P) :
    owedBar c P = owedBar c (P.erase p) + tallyAt (barCell (c + sgn p)) () 1 :=
  (Finset.sum_erase_add P _ h).symm
theorem owedBar_empty (c : Dev nD) : owedBar c ∅ = 0 := Finset.sum_empty

theorem sum_tally_apply {ι : Type} (S : Finset ι) (f : ι → CellTallies nD τ sig Unit) (g : GSem nD τ sig) (u : Unit) :
    (∑ i ∈ S, f i) g u = ∑ i ∈ S, f i g u := by
  classical
  induction S using Finset.induction_on with
  | empty => rfl
  | insert a S h ih => rw [Finset.sum_insert h, Finset.sum_insert h, Pi.add_apply, Finsupp.add_apply, ih]

theorem owedRecv_pos {c : Dev nD} {A : Finset (Fin 31)} {g : GSem nD τ sig} {u : Unit} (h : 0 < owedRecv c A g u) :
    ∃ t ∈ A, g = recvCell (c + tg t) t := by
  unfold owedRecv at h
  rw [sum_tally_apply] at h
  obtain ⟨t, ht, h1⟩ := Finset.exists_ne_zero_of_sum_ne_zero h.ne'
  refine ⟨t, ht, ?_⟩
  rw [tallyAt_apply] at h1
  by_contra hn
  exact h1 (if_neg fun h' => hn h'.1)
theorem owedBar_pos {c : Dev nD} {P : Finset (Fin 5)} {g : GSem nD τ sig} {u : Unit} (h : 0 < owedBar c P g u) :
    ∃ p ∈ P, g = barCell (c + sgn p) := by
  unfold owedBar at h
  rw [sum_tally_apply] at h
  obtain ⟨t, ht, h1⟩ := Finset.exists_ne_zero_of_sum_ne_zero h.ne'
  refine ⟨t, ht, ?_⟩
  rw [tallyAt_apply] at h1
  by_contra hn
  exact h1 (if_neg fun h' => hn h'.1)
theorem O₀_pos {c : Dev nD} {g : GSem nD τ sig} {u : Unit} (h : 0 < O₀ c g u) :
    (∃ t, g = recvCell (c + tg t) t) ∨ ∃ p, g = barCell (c + sgn p) := by
  unfold O₀ at h
  rw [Pi.add_apply, Finsupp.add_apply] at h
  rcases Nat.eq_zero_or_pos (owedRecv c Finset.univ g u) with h0 | h0
  · obtain ⟨p, -, h1⟩ := owedBar_pos (c := c) (P := Finset.univ) (g := g) (u := u) (by omega)
    exact Or.inr ⟨p, h1⟩
  · obtain ⟨t, -, h1⟩ := owedRecv_pos h0
    exact Or.inl ⟨t, h1⟩

def L (g : GSem nD τ sig) : Finset Unit := if g.1.2 = .tc then {()} else ∅
def lvOf : Option CK → ℕ
  | some (.inl _) => 1
  | some (.inr (.inr t)) => rlv t
  | _ => 0
/-- Barrier cells at 1, the receive cells above by the order of the arrivals, everything else at 0. -/
def lv (g : GSem nD τ sig) (_ : Unit) : ℕ := lvOf (cls g.2)

theorem rlv_gt : ∀ t, 1 < rlv t := by decide +kernel
theorem L_of_ne (g : GSem nD τ sig) (h : g.1.2 ≠ .tc) : L g = ∅ := if_neg h
theorem L_tc (c : Dev nD) (sm : SemLoc sig) : L ((c : Thread nD τ), sm) = {()} := if_pos rfl
theorem L_kcell (ck : Dev nD × CK) : () ∈ L (kcell ck) := by unfold kcell; rw [L_tc]; exact Finset.mem_singleton_self _
theorem lv_bar (c : Dev nD) : lv (barCell c) () = 1 := by unfold lv; rw [kcell_cls]; rfl
theorem lv_recv (c : Dev nD) (t : Fin 31) : lv (recvCell c t) () = rlv t := by unfold lv; rw [kcell_cls]; rfl

omit [FloatOps F] in
theorem mayWait_stage (c : Dev nD) (q : DmaSem sig) (hq : cls (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨p, rfl⟩ <;> exact L_kcell _)
      (fun p hp => by rw [Finset.mem_singleton.mp hp]; dsimp only [lv]; rw [hq]; exact Nat.le_refl 0)
      (fun g u hg => by
        rcases O₀_pos hg with ⟨t, rfl⟩ | ⟨p, rfl⟩
        · show 0 < lv _ (); rw [lv_recv]; exact Nat.lt_of_lt_of_le Nat.one_pos (rlv_gt t).le
        · show 0 < lv _ (); rw [lv_bar]; decide)
  · rw [MayWait_zero]; iintro -; iempintro

omit [FloatOps F] in
/-- A device may wait on a cell below every arrival it still owes. -/
theorem mayWait_below (c : Dev nD) (k : CK) (A : Finset (Fin 31)) (h : ∀ t ∈ A, lv (kcell (c, k)) () < rlv t) :
    (levAts L lv : sProp 𝕄) ⊢ MayWait (c : Thread nD τ) (csem k) () (owedRecv c A) :=
  MayOwe.of_cut (L := L) (lev := lv) (lv (kcell (c, k)) ()) (fun p hp => by rw [Finset.mem_singleton.mp hp]; exact L_kcell (c, k))
    (fun g u hg => by obtain ⟨t, -, rfl⟩ := owedRecv_pos hg; exact L_kcell _)
    (fun p hp => by rw [Finset.mem_singleton.mp hp]; exact Nat.le_refl _)
    (fun g u hg => by obtain ⟨t, ht, rfl⟩ := owedRecv_pos hg; rw [lv_recv]; exact h t ht)

end Cert.AllGather

end
-- ==== Proof.Steps.lean ====
/-
# The transfer operations, one rule each, and the list by induction

Between its opening and its ending a device holds what the sets of transfers started, received and known sent say it
holds. Each operation moves one transfer into one of the sets; the list of 93 takes the sets from empty to all.
-/
module

public import proofs.«01_k».proof.Proof.Protocol

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-- The invariants of all cells of all devices, at the names `K`, and that each has reached its round. -/
def records (K : Dev nD × CK → ℕ) : sProp 𝕄 :=
  iprop((bigSep Finset.univ fun ck : Dev nD × CK => cellInv ER (rd m) (K ck) (kcell ck))
    ∗ bigSep Finset.univ fun ck : Dev nD × CK => reached ER (kcell ck) 0)

instance records_persistent (K : Dev nD × CK → ℕ) : BI.Persistent (records m K) := by unfold records; infer_instance

omit [FloatOps F] in
theorem inv_at (K : Dev nD × CK → ℕ) (ck : Dev nD × CK) : records m K ⊢ cellInv ER (rd m) (K ck) (kcell ck) := by
  have h : (bigSep Finset.univ fun ck : Dev nD × CK => (cellInv ER (rd m) (K ck) (kcell ck) : sProp 𝕄)) ⊢ cellInv ER (rd m) (K ck) (kcell ck) :=
    bigSep_elim (Finset.mem_univ ck)
  unfold records; iintro ⟨H, -⟩; iapply h; iexact H
omit [FloatOps F] in
theorem reached_at (K : Dev nD × CK → ℕ) (ck : Dev nD × CK) : records m K ⊢ (reached ER (kcell ck) 0 : sProp 𝕄) := by
  have h : (bigSep Finset.univ fun ck : Dev nD × CK => (reached ER (kcell ck) 0 : sProp 𝕄)) ⊢ reached ER (kcell ck) 0 :=
    bigSep_elim (Finset.mem_univ ck)
  unfold records; iintro ⟨-, H⟩; iapply h; iexact H

/-- What a transfer not yet started needs besides its source: its two duties and its destination's slot. -/
def pend (c : Dev nD) (t : Fin 31) : sProp 𝕄 :=
  iprop(dutyTok ER (sendCell c t) 0 0 ∗ dutyTok ER (recvCell (c + tg t) t) 0 0 ∗ ∃ f, slot (c + tg t) (c + so t) fullShare f)

/-- What device `c` holds after starting the transfers in `A`, receiving those in `B`, knowing those in `C` sent. -/
def mid (c : Dev nD) (A B C : Finset (Fin 31)) : sProp 𝕄 :=
  iprop(bigSep Aᶜ (pend c)
    ∗ bigSep Cᶜ (fun t => atPos ER (sendCell c t) 0 ∅ 0)
    ∗ bigSep C (fun t => semVal (sendCell c t) 0)
    ∗ bigSep (A \ C) (fun t => cred (tallyAt (sendCell c t) () N))
    ∗ bigSep Bᶜ (fun t => iprop(atPos ER (recvCell c t) 0 ∅ 0 ∗ cred (tallyAt (recvCell c t) () N)))
    ∗ bigSep B (fun t => semVal (recvCell c t) 0)
    ∗ bigSep (ready A B) (sendPay m c)
    ∗ bigSep (B.filter fun t => users (ro t) = ∅) (recvPay m c)
    ∗ bigSep C (sendPay m c)
    ∗ ∃ W, owes (c : Thread nD τ) (owedRecv c Aᶜ) W)

/-- The wait on a send or receive cell for a block's credit, then the cell closed: its counter at zero and its payload. -/
theorem wp_wait_cell (K : Dev nD × CK → ℕ) (c : Dev nD) (k : Fin 31 ⊕ Fin 31) (sm : DmaSem sig) (hsm : csem (.inr k) = .dma sm)
    {M : Memref sig .tc .vmem S32x1024 .f32} (hM : M.view.dmaCredit = N) {h1 : M.view.WordExact} {h2 : M.view.WordExact}
    (O : CellTallies nD τ sig Unit) (W : Waits sig Unit)
    {α : Type} {Q : α → sProp 𝕄} {p : Prog (TpuEff nD τ sig (Elt F) Λ₀ .tc) α} :
    iprop(records m K ∗ cred (tallyAt (kcell (c, .inr k)) () N) ∗ owes (c : Thread nD τ) O W
        ∗ MayWait (c : Thread nD τ) (csem (.inr k)) () O ∗ atPos ER (kcell (c, .inr k)) 0 ∅ 0)
      ⊢ iprop(((∃ W', owes (c : Thread nD τ) O W') ∗ semVal (kcell (c, .inr k)) 0
            ∗ bigSep ((rd m).duties (kcell (c, .inr k)) 0 \ ∅) (fun d => (rd m).payload (kcell (c, .inr k)) 0 d)
            -∗ wp frame (wpE (defs₀ (F := F)) 𝒱₀ (c : Thread nD τ) none) Set.univ p Q)
          -∗ wp frame (wpE (defs₀ (F := F)) 𝒱₀ (c : Thread nD τ) none) Set.univ (.op (.waitDma2 sm M M h1 h2) fun _ => p) Q) := by
  have hc : kcell (c, .inr k) = ((c : Thread nD τ), .dma sm) := by unfold kcell; rw [hsm]
  have hexp := expect_xfer m c k
  have hlater := duties_later m (kcell (c, .inr k))
  iintro ⟨#HR, Hc, HO, Hmw, Hat⟩ Hk
  ihave #HI := (inv_at m K (c, .inr k)) $$ HR
  rw [hc] at hexp hlater ⊢
  rw [hsm]
  iapply (Rounds.wp_wait_rest_token 𝒱₀ ER (rd m) (c : Thread nD τ) none (κ := K (c, .inr k))
      (wpE_waitDma2_eq 𝒱₀ (c : Thread nD τ) none Set.univ) (Set.mem_univ _) () (O := O) (W := W) (R := 0) (m := 0) (T := ∅)
      (by rw [Nat.zero_add, hexp, hM])) $$ [Hc HO Hmw Hat]
  · isplitr; · iexact HI
    isplitl [Hc]; · rw [hM]; iexact Hc
    isplitl [HO]; · iexact HO
    isplitl [Hmw]; · iexact Hmw
    iexact Hat
  iintro ⟨HO, Hat, -, Hpay⟩
  imod (Rounds.cell_close ER (rd m) (Set.mem_univ (K (c, .inr k))) (fun h => h) (R := 0 + 1) hlater) $$ [Hat] with Hz
  · isplitr; · iexact HI
    iexact Hat
  iapply Hk
  isplitl [HO]; · iexists _; iexact HO
  isplitl [Hz]; · iexact Hz
  iexact Hpay

/-- A slot copied to the same slot of device `n`, its share and the destination handed in, at any cells whose duties
    take them. -/
theorem wp_send_slot (κ₁ κ₂ : ℕ) (c n j : Dev nD) (ss rs : DmaSem sig) (q : PosShare TreeShare)
    (hds : (rd m).duties ((c : Thread nD τ), .dma ss) 0 = {0}) (hdr : (rd m).duties ((n : Thread nD τ), .dma rs) 0 = {0})
    (has : (rd m).amount ((c : Thread nD τ), .dma ss) 0 0 = N) (har : (rd m).amount ((n : Thread nD τ), .dma rs) 0 0 = N)
    (hs : (rd m).payload ((c : Thread nD τ), .dma ss) 0 0 = slot c j q (gath m))
    (hr : (rd m).payload ((n : Thread nD τ), .dma rs) 0 0 = slot n j fullShare (gath m))
    {O₀ O : CellTallies nD τ sig Unit} (hO : O₀ = O + tallyAt ((n : Thread nD τ), .dma rs) () N)
    {hsc : (slotMem j : Memref sig (Dev.tc n : Thread nD τ).2.kind .vmem S32x1024 .f32).view.ref.isScScratch = false}
    {hsrc : (slotMem j).view.WordExact} {hdst : (slotMem j).view.WordExact}
    {hsem : DmaTarget.Typed .vmem (.dma rs) (.remote (Dev.tc n : Thread nD τ) (slotMem j) (.dma ss) hsc)}
    (W : Waits sig Unit) (fd : (cc0_scratch0 : Ref sig .tc).ty.Contents (Elt F))
    {α : Type} {Q : α → sProp 𝕄} {p : Prog (TpuEff nD τ sig (Elt F) Λ₀ .tc) α} :
    iprop(cellInv ER (rd m) κ₁ ((c : Thread nD τ), .dma ss) ∗ cellInv ER (rd m) κ₂ ((n : Thread nD τ), .dma rs)
        ∗ slot c j q (gath m) ∗ slot n j fullShare fd
        ∗ owes (c : Thread nD τ) O₀ W
        ∗ dutyTok ER ((c : Thread nD τ), .dma ss) 0 0 ∗ reached ER ((c : Thread nD τ), .dma ss) 0
        ∗ dutyTok ER ((n : Thread nD τ), .dma rs) 0 0 ∗ reached ER ((n : Thread nD τ), .dma rs) 0)
      ⊢ iprop(((cred (tallyAt ((c : Thread nD τ), .dma ss) () N) ∗ owes (c : Thread nD τ) O W)
            -∗ wp frame (wpE (defs₀ (F := F)) 𝒱₀ (c : Thread nD τ) none) Set.univ p Q)
          -∗ wp frame (wpE (defs₀ (F := F)) 𝒱₀ (c : Thread nD τ) none) Set.univ
              (.op (.enqueueDma (slotMem j) (.remote (Dev.tc n : Thread nD τ) (slotMem j) (.dma ss) hsc) (.dma rs) hsrc hdst hsem) fun _ => p) Q) := by
  have hr' := (slot_copied n j fullShare fd (gath m)).trans hr.symm
  unfold slot at hs hr' ⊢
  have hroute : τ.routes (c : Thread nD τ) (n : Thread nD τ) = true := by routes
  have key := Rounds.wp_send_pointsTo (defs := defs₀ (F := F)) (Q := Q) (k := fun _ => p) 𝒱₀ ER (rd m) (c : Thread nD τ) none (κ₁ := κ₁) (κ₂ := κ₂)
    (c' := (Dev.tc n : Thread nD τ)) (src := slotMem j) (dst := slotMem j) (sS := .dma ss) (sem := .dma rs) (hsc := hsc) (hsrc := hsrc) (hdst := hdst) (hsem := hsem)
    (r₁ := 0) (r₂ := 0) (d₁ := 0) (d₂ := 0) (fd := fd) (fs := gath m) (q := q)
    (by rw [hds]; exact Finset.mem_singleton_self _) (by rw [hdr]; exact Finset.mem_singleton_self _)
    () () N rfl has har O hO (W := W) (Γ := []) (Entails.of_eq hs.symm) (Entails.of_eq hr') (Es := Set.univ) hroute
  exact key

/-- The start of transfer `t`, its source's share, its destination's slot and its two duties handed in. -/
theorem wp_start (K : Dev nD × CK → ℕ) (c n : Dev nD) (t : Fin 31) (hn : n = c + tg t) {M : Memref sig .tc .vmem S32x1024 .f32} (hM : M = slotMem (c + so t))
    {ss rs : DmaSem sig} (hss : ss = sendSem t) (hrs : rs = recvSem t)
    {hsc : (M : Memref sig (Dev.tc n : Thread nD τ).2.kind .vmem S32x1024 .f32).view.ref.isScScratch = false}
    {hsrc : M.view.WordExact} {hdst : M.view.WordExact}
    {hsem : DmaTarget.Typed .vmem (.dma rs) (.remote (Dev.tc n : Thread nD τ) M (.dma ss) hsc)}
    (A : Finset (Fin 31)) (ht : t ∈ A) (W : Waits sig Unit)
    {α : Type} {Q : α → sProp 𝕄} {p : Prog (TpuEff nD τ sig (Elt F) Λ₀ .tc) α} :
    iprop(records m K ∗ sendPay m c t ∗ pend c t ∗ owes (c : Thread nD τ) (owedRecv c A) W)
      ⊢ iprop(((cred (tallyAt (sendCell c t) () N) ∗ owes (c : Thread nD τ) (owedRecv c (A.erase t)) W)
            -∗ wp frame (wpE (defs₀ (F := F)) 𝒱₀ (c : Thread nD τ) none) Set.univ p Q)
          -∗ wp frame (wpE (defs₀ (F := F)) 𝒱₀ (c : Thread nD τ) none) Set.univ
              (.op (.enqueueDma M (.remote (Dev.tc n : Thread nD τ) M (.dma ss) hsc) (.dma rs) hsrc hdst hsem) fun _ => p) Q) := by
  subst hn hM hss hrs
  unfold pend
  iintro ⟨#HR, Hsrc, ⟨HtS, HtR, ⟨%fd, Hdst⟩⟩, HO⟩
  ihave #HIs := (inv_at m K (c, .inr (.inl t))) $$ HR
  ihave #HIr := (inv_at m K (c + tg t, .inr (.inr t))) $$ HR
  ihave #Hrs := (reached_at m K (c, .inr (.inl t))) $$ HR
  ihave #Hrr := (reached_at m K (c + tg t, .inr (.inr t))) $$ HR
  unfold sendPay
  iapply (wp_send_slot m (K (c, .inr (.inl t))) (K (c + tg t, .inr (.inr t))) c (c + tg t) (c + so t) (sendSem t) (recvSem t) (shr t)
    (duties_xfer m c (.inl t)) (duties_xfer m (c + tg t) (.inr t)) (amount_xfer m c (.inl t) 0) (amount_xfer m (c + tg t) (.inr t) 0)
    (payload_send m c t 0) ((payload_recv m (c + tg t) t 0).trans (by unfold recvPay; rw [add_tg_ro])) (owedRecv_erase c A t ht) W fd) $$ [Hsrc HtS HtR Hdst HO]
  · isplitr; · iexact HIs
    isplitr; · iexact HIr
    isplitl [Hsrc]; · iexact Hsrc
    isplitl [Hdst]; · iexact Hdst
    isplitl [HO]; · iexact HO
    isplitl [HtS]; · iexact HtS
    isplitr; · iexact Hrs
    isplitl [HtR]; · iexact HtR
    iexact Hrr

/-! ## The bookkeeping of one operation -/

omit [FloatOps F] in
theorem mid_start (c : Dev nD) {A B C : Finset (Fin 31)} {t : Fin 31} (ht : t ∈ ready A B) (hC : t ∉ C) :
    mid m c A B C ⊢ iprop(sendPay m c t ∗ pend c t ∗ (∃ W, owes (c : Thread nD τ) (owedRecv c Aᶜ) W)
      ∗ ((cred (tallyAt (sendCell c t) () N) ∗ ∃ W, owes (c : Thread nD τ) (owedRecv c (Aᶜ.erase t)) W) -∗ mid m c (insert t A) B C)) := by
  have htA : t ∉ A := (Finset.mem_filter.mp ht).2.2
  have h1 : (insert t A)ᶜ = Aᶜ.erase t := Finset.compl_insert
  have h2 : insert t A \ C = insert t (A \ C) := Finset.insert_sdiff_of_notMem _ hC
  unfold mid
  rw [big_erase (Finset.mem_compl.mpr htA) (Φ := pend c), big_erase ht (Φ := sendPay m c), h1, h2, ready_start,
    big_insert (fun h => htA (Finset.mem_sdiff.mp h).1)]
  iintro ⟨⟨Hp, Hps⟩, H1, H2, H3, H4, H5, ⟨Hs, Hss⟩, H6, H7, HO⟩
  isplitl [Hs]; · iexact Hs
  isplitl [Hp]; · iexact Hp
  isplitl [HO]; · iexact HO
  iintro ⟨Hc, HO⟩
  isplitl [Hps]; · iexact Hps
  isplitl [H1]; · iexact H1
  isplitl [H2]; · iexact H2
  isplitl [Hc H3]; · (isplitl [Hc] <;> iassumption)
  isplitl [H4]; · iexact H4
  isplitl [H5]; · iexact H5
  isplitl [Hss]; · iexact Hss
  isplitl [H6]; · iexact H6
  isplitl [H7]; · iexact H7
  iexact HO

omit [FloatOps F] in
/-- What an arrival brings is either passed on, dealt among the transfers that copy it, or kept. -/
theorem recv_deal (c : Dev nD) {A B : Finset (Fin 31)} {t : Fin 31} (ht : t ∉ B) (hA : Disjoint (users (ro t)) A) :
    iprop(recvPay m c t ∗ bigSep (ready A B) (sendPay m c) ∗ bigSep (B.filter fun t => users (ro t) = ∅) (recvPay m c))
      ⊢ iprop(bigSep (ready A (insert t B)) (sendPay m c) ∗ bigSep ((insert t B).filter fun t => users (ro t) = ∅) (recvPay m c)) := by
  rw [ready_recv A B t hA, big_union (ready_disjoint A B t ht ro_ne_zero), Finset.filter_insert]
  by_cases he : users (ro t) = ∅
  · rw [if_pos he, he, big_empty, big_insert (fun h => ht (Finset.mem_filter.mp h).1)]
    iintro ⟨H1, H2, H3⟩
    isplitl [H2]; · (isplitl [H2]; · iexact H2); iempintro
    isplitl [H1] <;> iassumption
  · rw [if_neg he, show (recvPay m c t : sProp 𝕄) = _ from slot_deal c (ro t) (Finset.nonempty_iff_ne_empty.mpr he) (gath m)]
    iintro ⟨H1, H2, H3⟩
    isplitl [H1 H2]
    · isplitl [H2]; · iexact H2
      iexact H1
    iexact H3

omit [FloatOps F] in
theorem mid_recv (c : Dev nD) {A B C : Finset (Fin 31)} {t : Fin 31} (ht : t ∉ B) (hA : Disjoint (users (ro t)) A) :
    mid m c A B C ⊢ iprop(cred (tallyAt (recvCell c t) () N) ∗ (∃ W, owes (c : Thread nD τ) (owedRecv c Aᶜ) W) ∗ atPos ER (recvCell c t) 0 ∅ 0
      ∗ (((∃ W, owes (c : Thread nD τ) (owedRecv c Aᶜ) W) ∗ semVal (recvCell c t) 0 ∗ recvPay m c t) -∗ mid m c A (insert t B) C)) := by
  have h1 : (insert t B)ᶜ = Bᶜ.erase t := Finset.compl_insert
  unfold mid
  rw [big_erase (Finset.mem_compl.mpr ht), h1, big_insert ht]
  iintro ⟨H0, H1, H2, H3, ⟨⟨Hat, Hc⟩, H4⟩, H5, H6, H7, H8, HO⟩
  isplitl [Hc]; · iexact Hc
  isplitl [HO]; · iexact HO
  isplitl [Hat]; · iexact Hat
  iintro ⟨HO, Hz, Hpay⟩
  ihave Hd := (recv_deal m c ht hA) $$ [H6 H7 Hpay]
  · isplitl [Hpay]; · iexact Hpay
    isplitl [H6] <;> iassumption
  icases Hd with ⟨H6, H7⟩
  isplitl [H0]; · iexact H0
  isplitl [H1]; · iexact H1
  isplitl [H2]; · iexact H2
  isplitl [H3]; · iexact H3
  isplitl [H4]; · iexact H4
  isplitl [H5 Hz]; · (isplitl [Hz] <;> iassumption)
  isplitl [H6]; · iexact H6
  isplitl [H7]; · iexact H7
  isplitl [H8]; · iexact H8
  iexact HO

omit [FloatOps F] in
theorem mid_sent (c : Dev nD) {A B C : Finset (Fin 31)} {t : Fin 31} (hA : A = Finset.univ) (ht : t ∉ C) :
    mid m c A B C ⊢ iprop(cred (tallyAt (sendCell c t) () N) ∗ (∃ W, owes (c : Thread nD τ) 0 W) ∗ atPos ER (sendCell c t) 0 ∅ 0
      ∗ (((∃ W, owes (c : Thread nD τ) 0 W) ∗ semVal (sendCell c t) 0 ∗ sendPay m c t) -∗ mid m c A B (insert t C))) := by
  subst hA
  have h1 : (insert t C)ᶜ = Cᶜ.erase t := Finset.compl_insert
  have h2 : (Finset.univ : Finset (Fin 31)) \ insert t C = (Finset.univ \ C).erase t := by
    rw [← Finset.compl_eq_univ_sdiff, h1, Finset.compl_eq_univ_sdiff]
  unfold mid
  rw [big_erase (Finset.mem_compl.mpr ht) (Φ := fun t => atPos ER (sendCell c t) 0 ∅ 0), h1, h2,
    big_erase (i := t) (s := Finset.univ \ C) (Finset.mem_sdiff.mpr ⟨Finset.mem_univ _, ht⟩), big_insert ht, big_insert ht,
    Finset.compl_univ, owedRecv_empty]
  iintro ⟨H0, ⟨Hat, H1⟩, H2, ⟨Hc, H3⟩, H4, H5, H6, H7, H8, HO⟩
  isplitl [Hc]; · iexact Hc
  isplitl [HO]; · iexact HO
  isplitl [Hat]; · iexact Hat
  iintro ⟨HO, Hz, Hpay⟩
  isplitl [H0]; · iexact H0
  isplitl [H1]; · iexact H1
  isplitl [H2 Hz]; · (isplitl [Hz] <;> iassumption)
  isplitl [H3]; · iexact H3
  isplitl [H4]; · iexact H4
  isplitl [H5]; · iexact H5
  isplitl [H6]; · iexact H6
  isplitl [H7]; · iexact H7
  isplitl [H8 Hpay]; · (isplitl [Hpay] <;> iassumption)
  iexact HO

/-! ## The list -/

/-- A list of operations that are what their tags say, whose tags run from the sets `A B C`, takes a device from what it
    holds at those sets to what it holds when all is done. -/
theorem wp_ops (K : Dev nD × CK → ℕ) (c : Dev nD) (p : Prog (TpuEff nD τ sig (Elt F) Λ₀ .tc) PUnit) (Q : PUnit → sProp 𝕄) :
    ∀ (l : List (Tag × Op)) (A B C : Finset (Fin 31)), (l.all fun x => matchesB x.1 x.2) = true → runsB A B C (l.map Prod.fst) = true →
      iprop(records m K ∗ levAts L lv ∗ mid m c A B C
          ∗ (mid m c Finset.univ Finset.univ Finset.univ -∗ wp frame (wpE (defs₀ (F := F)) 𝒱₀ (c : Thread nD τ) none) Set.univ p Q))
        ⊢ wp frame (wpE (defs₀ (F := F)) 𝒱₀ (c : Thread nD τ) none) Set.univ (runOps c p l) Q
  | [], A, B, C, _, hr => by
    simp only [List.map_nil, runsB, Bool.and_eq_true, decide_eq_true_eq] at hr
    obtain ⟨⟨rfl, rfl⟩, rfl⟩ := hr
    iintro ⟨-, -, Hm, Hk⟩
    iapply Hk; iexact Hm
  | (.start t, .start s tgt ss rs) :: l, A, B, C, hm, hr => by
    simp only [List.all_cons, matchesB, Bool.and_eq_true, decide_eq_true_eq] at hm
    simp only [List.map_cons, runsB, Bool.and_eq_true, decide_eq_true_eq] at hr
    obtain ⟨⟨⟨⟨hoff, htgt⟩, hss⟩, hrs⟩, hm⟩ := hm
    obtain ⟨⟨ht, hC⟩, hr⟩ := hr
    iintro ⟨#HR, #Hlev, Hm, Hk⟩
    ihave Hm' := (mid_start m c ht hC) $$ Hm
    icases Hm' with ⟨Hs, Hp, ⟨%W, HO⟩, Hback⟩
    iapply (wp_start m K c (tgt c) t (htgt c) (Rows.mem_eq s c (c + so t) (hoff c)) hss hrs Aᶜ (Finset.mem_compl.mpr (Finset.mem_filter.mp ht).2.2) W) $$ [Hs Hp HO]
    · isplitr; · iexact HR
      isplitl [Hs]; · iexact Hs
      isplitl [Hp] <;> iassumption
    iintro ⟨Hc, HO⟩
    iapply (wp_ops K c p Q l (insert t A) B C hm hr)
    isplitr; · iexact HR
    isplitr; · iexact Hlev
    isplitl [Hback Hc HO]
    · iapply Hback
      isplitl [Hc]; · iexact Hc
      iexists W; iexact HO
    iexact Hk
  | (.recv t, .wait s sm) :: l, A, B, C, hm, hr => by
    simp only [List.all_cons, matchesB, Bool.and_eq_true, decide_eq_true_eq] at hm
    simp only [List.map_cons, runsB, Bool.and_eq_true, decide_eq_true_eq] at hr
    obtain ⟨hsm, hm⟩ := hm
    obtain ⟨⟨⟨ht, hlv⟩, hA⟩, hr⟩ := hr
    iintro ⟨#HR, #Hlev, Hm, Hk⟩
    ihave Hm' := (mid_recv m c ht hA) $$ Hm
    icases Hm' with ⟨Hc, ⟨%W, HO⟩, Hat, Hback⟩
    iapply (wp_wait_cell m K c (.inr t) sm (congrArg SemLoc.dma hsm.symm) (credit_eq s c) (owedRecv c Aᶜ) W) $$ [Hc HO Hat]
    · isplitr; · iexact HR
      isplitl [Hc]; · iexact Hc
      isplitl [HO]; · iexact HO
      isplitr
      · iapply (mayWait_below c (.inr (.inr t)) Aᶜ fun u hu => by rw [lv_recv]; exact hlv u (Finset.mem_compl.mp hu)); iexact Hlev
      iexact Hat
    iintro ⟨HO, Hz, Hpay⟩
    ihave Hpay := (Entails.of_eq (rest_recv m c t)) $$ Hpay
    iapply (wp_ops K c p Q l A (insert t B) C hm hr)
    isplitr; · iexact HR
    isplitr; · iexact Hlev
    isplitl [Hback Hz Hpay HO]
    · iapply Hback
      isplitl [HO]; · iexact HO
      isplitl [Hz] <;> iassumption
    iexact Hk
  | (.sent t, .wait s sm) :: l, A, B, C, hm, hr => by
    simp only [List.all_cons, matchesB, Bool.and_eq_true, decide_eq_true_eq] at hm
    simp only [List.map_cons, runsB, Bool.and_eq_true, decide_eq_true_eq] at hr
    obtain ⟨hsm, hm⟩ := hm
    obtain ⟨⟨hA, ht⟩, hr⟩ := hr
    iintro ⟨#HR, #Hlev, Hm, Hk⟩
    ihave Hm' := (mid_sent m c hA ht) $$ Hm
    icases Hm' with ⟨Hc, ⟨%W, HO⟩, Hat, Hback⟩
    iapply (wp_wait_cell m K c (.inl t) sm (congrArg SemLoc.dma hsm.symm) (credit_eq s c) 0 W) $$ [Hc HO Hat]
    · isplitr; · iexact HR
      isplitl [Hc]; · iexact Hc
      isplitl [HO]; · iexact HO
      isplitr; · rw [MayWait_zero]; iempintro
      iexact Hat
    iintro ⟨HO, Hz, Hpay⟩
    ihave Hpay := (Entails.of_eq (rest_send m c t)) $$ Hpay
    iapply (wp_ops K c p Q l A B (insert t C) hm hr)
    isplitr; · iexact HR
    isplitr; · iexact Hlev
    isplitl [Hback Hz Hpay HO]
    · iapply Hback
      isplitl [HO]; · iexact HO
      isplitl [Hz] <;> iassumption
    iexact Hk
  | (.start _, .wait _ _) :: l, _, _, _, hm, _ => by simp [matchesB] at hm
  | (.recv _, .start _ _ _ _) :: l, _, _, _, hm, _ => by simp [matchesB] at hm
  | (.sent _, .start _ _ _ _) :: l, _, _, _, hm, _ => by simp [matchesB] at hm

end Cert.AllGather

end
-- ==== Proof.Slots.lean ====
/-
# The gathered array, slot by slot

The gathered array is its 32 slots; a device's own store fills its own slot; at the end the slots that were copied, kept
and passed on make up the whole array again.
-/
module

public import proofs.«01_k».proof.Proof.Steps
public import Idealize.ShloMosaic.Lib.Ring

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

theorem slot_set (j : Dev nD) : (slotMem j).view.set = (slotRect j).set := View.set_slice_whole cc0_scratch0 (slotRect j)

theorem mem_slot (j : Dev nD) (i : S1024x1024.Idx) : i ∈ (slotRect j).set ↔ 32 * j.val ≤ (i 0).val ∧ (i 0).val < 32 * j.val + 32 := by
  have h1 : (i 1).val < 1024 := (i 1).isLt
  rw [Rect.mem_set_unit]
  constructor
  · intro h; exact h 0
  · intro h a
    match a with
    | 0 => exact h
    | 1 => exact ⟨Nat.zero_le _, by show (i 1).val < 0 + 1024; omega⟩

/-- The device whose block row `i` is of. -/
def rowDev (i : S1024x1024.Idx) : Dev nD := ⟨(i 0).val / 32, by have h : (i 0).val < 1024 := (i 0).isLt; show _ < 32; omega⟩

theorem mem_slot_iff (j : Dev nD) (i : S1024x1024.Idx) : i ∈ (slotMem j).view.set ↔ rowDev i = j := by
  rw [slot_set, mem_slot, Fin.ext_iff]
  show _ ↔ (i 0).val / 32 = j.val
  omega

omit [FloatOps F] in
/-- The array held outright is its slots, named by their devices. -/
theorem whole_slots₀ (c : Dev nD) (f : (cc0_scratch0 : Ref sig .tc).ty.Contents (Elt F)) :
    ((((c : Thread nD τ).loc cc0_scratch0) ↦{fullShare} f : sProp 𝕄)) = bigSep Finset.univ fun j : Dev nD => slot c j fullShare f := by
  simp only [slot_eq]
  refine Ring.pointsTo_blocks (ℓ := (c : Thread nD τ).loc cc0_scratch0) (B := Dev nD) (fun j : Dev nD => (slotMem j).view.set) ?_ ?_ f
  · intro b b' h
    exact Finset.disjoint_left.mpr fun i h1 h2 => h (((mem_slot_iff b i).mp h1).symm.trans ((mem_slot_iff b' i).mp h2))
  · ext i
    simp only [Finset.mem_biUnion, Finset.mem_univ, true_and, iff_true]
    exact ⟨rowDev i, (mem_slot_iff _ i).mpr rfl⟩

theorem add_injective : ∀ c : Dev nD, Function.Injective fun v : Dev nD => c + v := by decide +kernel
theorem add_surjective : ∀ c : Dev nD, Function.Surjective fun v : Dev nD => c + v := by decide +kernel
/-- Counting devices from `c`. -/
def rot (c : Dev nD) : Dev nD ≃ Dev nD := Equiv.ofBijective (fun v => c + v) ⟨add_injective c, add_surjective c⟩

omit [FloatOps F] in
/-- The same, the slots counted from the device itself. -/
theorem whole_slots (c : Dev nD) (f : (cc0_scratch0 : Ref sig .tc).ty.Contents (Elt F)) :
    ((((c : Thread nD τ).loc cc0_scratch0) ↦{fullShare} f : sProp 𝕄)) = bigSep Finset.univ fun v : Dev nD => slot c (c + v) fullShare f := by
  rw [whole_slots₀, bigSep_univ_equiv (rot c) (fun j : Dev nD => (slot c j fullShare f : sProp 𝕄))]
  rfl

/-! ## What a device hands over at the start -/

theorem ro_image : Finset.univ.erase (0 : Dev nD) = Finset.univ.image ro := by decide +kernel
theorem add_zero_dev : ∀ c : Dev nD, c + (0 : Dev nD) = c := by decide +kernel
theorem pay_addr : ∀ (c : Dev nD) (p : Fin 5) (t : Fin 31), t ∈ payees p → c + sgn p + tg t = c ∧ c + sgn p + so t = c + ro t := by decide +kernel

omit [FloatOps F] in
theorem barPay_eq (c : Dev nD) (p : Fin 5) :
    (barPay (c + sgn p) p : sProp 𝕄) = bigSep (payees p) fun t => iprop(∃ f, slot c (c + ro t) fullShare f) := by
  unfold barPay
  refine bigSep_congr fun t ht => ?_
  obtain ⟨h1, h2⟩ := pay_addr c p t ht
  rw [h1, h2]

omit [FloatOps F] in
/-- A device's array is its own slot and what it hands the five devices it signals. -/
theorem whole_pays (c : Dev nD) (f : (cc0_scratch0 : Ref sig .tc).ty.Contents (Elt F)) :
    ((((c : Thread nD τ).loc cc0_scratch0) ↦{fullShare} f : sProp 𝕄))
      ⊢ iprop(slot c c fullShare f ∗ bigSep Finset.univ fun p : Fin 5 => barPay (c + sgn p) p) := by
  rw [bigSep_congr (fun p _ => barPay_eq c p), bar_all, whole_slots, big_erase (Finset.mem_univ (0 : Dev nD)), ro_image,
    bigSep_image_of_injOn (fun a _ b _ h => ro_injective h) fun v : Dev nD => slot c (c + v) fullShare f, add_zero_dev]
  have h1 : ∀ t : Fin 31, (slot c (c + ro t) fullShare f : sProp 𝕄) ⊢ iprop(∃ f, slot c (c + ro t) fullShare f) := fun t => by
    iintro H; iexists f; iexact H
  have h : (bigSep Finset.univ fun t : Fin 31 => (slot c (c + ro t) fullShare f : sProp 𝕄)) ⊢ bigSep Finset.univ fun t : Fin 31 => iprop(∃ f, slot c (c + ro t) fullShare f) :=
    bigSep_mono fun t _ => h1 t
  iintro ⟨H1, H2⟩
  isplitl [H1]; · iexact H1
  iapply h; iexact H2

/-! ## A device's own block -/

theorem off1_eq : ∀ d : Dev nD, k0_off1 d = ![32 * d.val, 0] := by decide +kernel

theorem ownRect_eq (d : Dev nD) : ownRect d = slotRect d := by
  have key : ∀ (o : Fin 2 → Nat) (i : ∀ a, o a + S32x1024.size a ≤ S1024x1024.size a), o = ![32 * d.val, 0] →
      Rect.unit (s := S1024x1024) o S32x1024.size i = slotRect d := by
    intro o i h; subst h; rfl
  exact key _ _ (off1_eq d)

omit [FloatOps F] in
theorem gath_emb (c : Dev nD) (x : S32x1024.Idx) : gath m ((slotMem c).view.emb x) = xstg m c x := by
  have h0 : ((slotMem c).view.emb x 0).val = 32 * c.val + (x 0).val := by
    show 32 * c.val + 1 * (x 0).val = _; omega
  have h1 : ((slotMem c).view.emb x 1).val = (x 1).val := by
    show 0 + 1 * (x 1).val = _; omega
  have hx : (x 0).val < 32 := (x 0).isLt
  unfold gath
  have hd : (⟨((slotMem c).view.emb x 0).val / 32, by
      have h : ((slotMem c).view.emb x 0).val < 1024 := ((slotMem c).view.emb x 0).isLt; show _ < 32; omega⟩ : Dev nD) = c :=
    Fin.ext (by show ((slotMem c).view.emb x 0).val / 32 = c.val; rw [h0]; omega)
  rw [hd]
  refine congrArg (xstg m c) (funext fun a => Fin.ext ?_)
  match a with
  | 0 => show ((slotMem c).view.emb x 0).val % 32 = _; rw [h0]; omega
  | 1 => exact h1

omit [FloatOps F] in
/-- The own slot after a store of the device's block. -/
theorem own_stored (c : Dev nD) (f : (cc0_scratch0 : Ref sig .tc).ty.Contents (Elt F)) :
    (slot c c fullShare ((slotMem c).view.write (Elt F) f (xstg m c) Finset.univ) : sProp 𝕄) = slot c c fullShare (gath m) := by
  rw [slot_eq, slot_eq]
  refine pointsTo_congr fun i hi => ?_
  obtain ⟨x, -, hx⟩ := Finset.mem_map.mp hi
  subst hx
  exact ((View.write_emb_of_mem (v := (slotMem c).view) f _ (Finset.mem_univ x)).trans rfl).trans (gath_emb m c x).symm

/-! ## All done: the array whole -/

omit [FloatOps F] in
theorem emps_sep {I : Type} [DecidableEq I] (S : Finset I) (X : sProp 𝕄) : iprop(bigSep S (fun _ => iprop(emp)) ∗ X) = X := by
  have h1 : iprop(bigSep S (fun _ => iprop(emp)) ∗ X) ⊢ X := by iintro ⟨-, H⟩; iexact H
  have he : (iprop(emp) : sProp 𝕄) ⊢ bigSep S fun _ => iprop(emp) := BI.bigSep_of_persistent _ _
  have h2 : X ⊢ iprop(bigSep S (fun _ => iprop(emp)) ∗ X) := by
    iintro H
    isplitr
    · iapply he; iempintro
    · iexact H
  exact BI.Entails.antisymm h1 h2

omit [FloatOps F] in
theorem rejoin (c : Dev nD) :
    iprop(bigSep Finset.univ (sendPay m c) ∗ bigSep (Finset.univ.filter fun t => users (ro t) = ∅) (recvPay m c))
      ⊢ (((c : Thread nD τ).loc cc0_scratch0) ↦{fullShare} gath m : sProp 𝕄) := by
  have hs : (bigSep Finset.univ (sendPay m c) : sProp 𝕄)
      = bigSep (Finset.univ.filter fun v : Dev nD => ¬ users v = ∅) fun v => slot c (c + v) fullShare (gath m) := by
    rw [bigSep_fibre so, big_split Finset.univ (fun v : Dev nD => users v = ∅),
      bigSep_congr (s := Finset.univ.filter fun v : Dev nD => users v = ∅) (Ψ := fun _ => iprop(emp)) (fun v hv => by
        rw [show (Finset.univ.filter fun t => so t = v) = ∅ from (Finset.mem_filter.mp hv).2, big_empty]),
      bigSep_congr (s := Finset.univ.filter fun v : Dev nD => ¬ users v = ∅) (Φ := fun v => bigSep (Finset.univ.filter fun t => so t = v) (sendPay m c)) (Ψ := fun v => slot c (c + v) fullShare (gath m)) (fun v hv =>
        (slot_deal c v (Finset.nonempty_iff_ne_empty.mpr (Finset.mem_filter.mp hv).2) (gath m)).symm)]
    exact emps_sep _ _
  have hr : (bigSep (Finset.univ.filter fun t => users (ro t) = ∅) (recvPay m c) : sProp 𝕄)
      = bigSep (Finset.univ.filter fun v : Dev nD => users v = ∅) fun v => slot c (c + v) fullShare (gath m) := by
    rw [← unused_eq, bigSep_image_of_injOn (fun a _ b _ h => ro_injective h)]
    rfl
  rw [hs, hr, whole_slots, big_split Finset.univ (fun v : Dev nD => users v = ∅)]
  iintro ⟨H1, H2⟩
  isplitl [H2] <;> iassumption

end Cert.AllGather

end
-- ==== Proof.Body.lean ====
/-
# One device's body

The body run from what the launch deals a device to the state in which the gathered array is whole, every semaphore is
back at zero and the result's staging buffer holds the product.
-/
module

public import proofs.«01_k».proof.Proof.Slots
public import proofs.«01_k».proof.Proof.Gen.KernelIdeal.Points
public import Idealize.ShloMosaic.Lib.Pipeline.Value

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- The whole gathered array of device `c` holding `f`. -/
def scr (c : Dev nD) (f : (cc0_scratch0 : Ref sig .tc).ty.Contents (Elt F)) : sProp 𝕄 := ((c : Thread nD τ).loc cc0_scratch0) ↦{fullShare} f

/-- The duties device `c` pays. -/
def payToks (c : Dev nD) : sProp 𝕄 :=
  iprop((bigSep Finset.univ fun p : Fin 5 => dutyTok ER (barCell (c + sgn p)) 0 p)
    ∗ (bigSep Finset.univ fun t : Fin 31 => dutyTok ER (sendCell c t) 0 0)
    ∗ bigSep Finset.univ fun t : Fin 31 => dutyTok ER (recvCell (c + tg t) t) 0 0)

/-- Its positions in its own cells. -/
def poss (c : Dev nD) : sProp 𝕄 :=
  iprop(atPos ER (barCell c) 0 ∅ 0 ∗ (bigSep Finset.univ fun t : Fin 31 => atPos ER (sendCell c t) 0 ∅ 0)
    ∗ bigSep Finset.univ fun t : Fin 31 => atPos ER (recvCell c t) 0 ∅ 0)

def ghost (K : Dev nD × CK → ℕ) (c : Dev nD) : sProp 𝕄 := iprop(records m K ∗ poss c ∗ payToks c)

/-- The counters of the semaphores nothing uses. -/
def spares (c : Dev nD) : sProp 𝕄 := bigSep Finset.univ fun i : Fin 8 => semVal ((c : Thread nD τ), .dma (spareSem i)) 0

/-- The credit of the units others owe its cells. -/
def creds (c : Dev nD) : sProp 𝕄 :=
  iprop(cred (tallyAt (barCell c) () 5) ∗ bigSep Finset.univ fun t : Fin 31 => cred (tallyAt (recvCell c t) () N))

def start (c : Dev nD) : sProp 𝕄 := iprop((∃ K, ghost m K c) ∗ spares c ∗ creds c ∗ levAts L lv)

def Φ₀ (c : Dev nD) : sProp 𝕄 := iprop(start m c ∗ ∃ f, scr c f)
def Φ₁ (c : Dev nD) : sProp 𝕄 :=
  iprop(scr c (gath m) ∗ (bigSep Finset.univ fun t : Fin 31 => semVal (sendCell c t) 0)
    ∗ (bigSep Finset.univ fun t : Fin 31 => semVal (recvCell c t) 0) ∗ spares c ∗ semVal (barCell c) 0)

/-- What the result's staging buffer of device `c` ends with. -/
def outAt (c : Dev nD) : (cc0_stg2_0 : Ref sig .tc).ty.Contents (Elt F) := k0_pay1 (gath m) (wstg m c)

/-! ## The handshake -/

/-- What device `c` still has for the signals in `P`: the duty and what it hands over. -/
def sigs (c : Dev nD) (P : Finset (Fin 5)) : sProp 𝕄 :=
  bigSep P fun p => iprop(dutyTok ER (barCell (c + sgn p)) 0 p ∗ barPay (c + sgn p) p)

/-- One signal. -/
theorem wp_bar_signal (K : Dev nD × CK → ℕ) (c n : Dev nD) (p : Fin 5) (P : Finset (Fin 5)) (hn : n = c + sgn p) (hp : p ∈ P) (z : Int) (hz : z = ((1 : ℕ) : Int))
    {α : Type} {Q : α → sProp 𝕄} {k : PUnit → Prog (TpuEff nD τ sig (Elt F) Λ₀ .tc) α} :
    iprop(records m K ∗ sigs c P ∗ ∃ W, owes (c : Thread nD τ) (owedRecv c Finset.univ + owedBar c P) W)
      ⊢ iprop(((sigs c (P.erase p) ∗ ∃ W, owes (c : Thread nD τ) (owedRecv c Finset.univ + owedBar c (P.erase p)) W)
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS z) k) Q) := by
  subst hn hz
  unfold sigs
  rw [big_erase hp]
  iintro ⟨#HR, ⟨⟨Htok, Hpay⟩, Hs⟩, ⟨%W, HO⟩⟩ Hk
  ihave #HI := (inv_at m K (c + sgn p, .inl ())) $$ HR
  ihave #Hr := (reached_at m K (c + sgn p, .inl ())) $$ HR
  have key := Rounds.wp_signal (defs := defs₀ (F := F)) (Q := Q) (k := k) 𝒱₀ ER (rd m) (c : Thread nD τ) none (dst := ((c + sgn p : Dev nD) : Thread nD τ)) (sem := barS) (r := 0)
    (κ := K (c + sgn p, .inl ())) (d := p) (k' := 1) (by have h := duties_bar m (c + sgn p); exact h ▸ Finset.mem_univ p)
    (amount_bar m (c + sgn p) p) () (owedRecv c Finset.univ + owedBar c (P.erase p)) (O₀ := owedRecv c Finset.univ + owedBar c P)
    (by rw [owedBar_erase c P p hp, add_assoc]; rfl) (W := W) (Es := Set.univ) (Γ := [])
  have hpay : (barPay (c + sgn p) p : sProp 𝕄) ⊢ (rd m).payload (((c + sgn p : Dev nD) : Thread nD τ), .reg barS) 0 p :=
    Entails.of_eq (payload_bar m (c + sgn p) p).symm
  iapply key $$ [HO Htok Hpay]
  · isplitr; · iexact HI
    isplitl [HO]; · iexact HO
    isplitl [Htok]; · iexact Htok
    isplitl [Hpay]
    · iapply hpay; iexact Hpay
    iexact Hr
  iintro HO
  iapply Hk
  isplitl [Hs]; · iexact Hs
  iexists W; iexact HO

/-- The wait for all five: every slot this device will write, and the barrier's counter back at zero. -/
theorem wp_bar_wait (K : Dev nD × CK → ℕ) (c : Dev nD) (z : Int) (hz : z = ((5 : ℕ) : Int))
    {α : Type} {Q : α → sProp 𝕄} {k : PUnit → Prog (TpuEff nD τ sig (Elt F) Λ₀ .tc) α} :
    iprop(records m K ∗ levAts L lv ∗ cred (tallyAt (barCell c) () 5) ∗ atPos ER (barCell c) 0 ∅ 0
        ∗ ∃ W, owes (c : Thread nD τ) (owedRecv c Finset.univ + owedBar c ∅) W)
      ⊢ iprop((((∃ W, owes (c : Thread nD τ) (owedRecv c Finset.univ) W) ∗ semVal (barCell c) 0
              ∗ bigSep Finset.univ fun t : Fin 31 => iprop(∃ f, slot (c + tg t) (c + so t) fullShare f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS z) k) Q) := by
  subst hz
  rw [owedBar_empty, add_zero]
  iintro ⟨#HR, #Hlev, Hc, Hat, ⟨%W, HO⟩⟩ Hk
  ihave #HI := (inv_at m K (c, .inl ())) $$ HR
  iapply (Rounds.wp_wait_rest_token 𝒱₀ ER (rd m) (c : Thread nD τ) none (κ := K (c, .inl ()))
      (wpE_semWait_eq 𝒱₀ (c : Thread nD τ) none Set.univ) (Set.mem_univ _) () (O := owedRecv c Finset.univ) (W := W) (R := 0) (m := 0) (T := ∅)
      (by have h := expect_bar m c; exact (Nat.zero_add _).trans h.symm)) $$ [Hc HO Hat]
  · isplitr; · iexact HI
    isplitl [Hc]; · iexact Hc
    isplitl [HO]; · iexact HO
    isplitr
    · iapply (mayWait_below c (.inl ()) Finset.univ fun t _ => by rw [lv_bar]; exact rlv_gt t); iexact Hlev
    iexact Hat
  iintro ⟨HO, Hat, -, Hpay⟩
  imod (Rounds.cell_close ER (rd m) (Set.mem_univ (K (c, .inl ()))) (fun h => h) (R := 0 + 1) (duties_later m (barCell c))) $$ [Hat] with Hz
  · isplitr; · iexact HI
    iexact Hat
  have hall : (bigSep ((rd (F := F) m).duties (barCell c) 0 \ ∅) (fun p => (rd (F := F) m).payload (barCell c) 0 p) : sProp 𝕄)
      = bigSep Finset.univ fun t : Fin 31 => iprop(∃ f, slot (c + tg t) (c + so t) fullShare f) := by
    rw [rest_bar]; unfold barPay
    exact bar_all (fun t : Fin 31 => iprop(∃ f, slot (c + tg t) (c + so t) fullShare f))
  iapply Hk
  isplitl [HO]; · iexists _; iexact HO
  isplitl [Hz]; · iexact Hz
  iapply (Entails.of_eq hall); iexact Hpay

/-! ## Into the list of transfers and out of it -/

omit [FloatOps F] in
theorem mid_intro (c : Dev nD) :
    iprop((bigSep Finset.univ fun t : Fin 31 => dutyTok ER (sendCell c t) 0 0) ∗ (bigSep Finset.univ fun t : Fin 31 => dutyTok ER (recvCell (c + tg t) t) 0 0)
        ∗ (bigSep Finset.univ fun t : Fin 31 => iprop(∃ f, slot (c + tg t) (c + so t) fullShare f))
        ∗ (bigSep Finset.univ fun t : Fin 31 => atPos ER (sendCell c t) 0 ∅ 0) ∗ (bigSep Finset.univ fun t : Fin 31 => atPos ER (recvCell c t) 0 ∅ 0)
        ∗ (bigSep Finset.univ fun t : Fin 31 => cred (tallyAt (recvCell c t) () N))
        ∗ slot c c fullShare (gath m) ∗ ∃ W, owes (c : Thread nD τ) (owedRecv c Finset.univ) W)
      ⊢ mid m c ∅ ∅ ∅ := by
  have hr : ready ∅ ∅ = users 0 := by decide +kernel
  have hs : (slot c c fullShare (gath m) : sProp 𝕄) = bigSep (users 0) (sendPay m c) := by
    have h := slot_deal c 0 (by decide +kernel) (gath m)
    rw [add_zero_dev] at h; exact h
  unfold mid pend
  rw [hr, hs, Finset.compl_empty, Finset.sdiff_empty, Finset.filter_empty]
  simp only [big_empty, bigSep_sep']
  iintro ⟨H1, H2, H3, H4, H5, H6, H7, H8⟩
  isplitl [H1 H2 H3]
  · isplitl [H1]; · iexact H1
    isplitl [H2] <;> iassumption
  isplitl [H4]; · iexact H4
  isplitr; · iempintro
  isplitr; · iempintro
  isplitl [H5 H6]; · (isplitl [H5] <;> iassumption)
  isplitr; · iempintro
  isplitl [H7]; · iexact H7
  isplitr; · iempintro
  isplitr; · iempintro
  iexact H8

omit [FloatOps F] in
theorem mid_done (c : Dev nD) :
    mid m c Finset.univ Finset.univ Finset.univ
      ⊢ iprop((bigSep Finset.univ fun t : Fin 31 => semVal (sendCell c t) 0) ∗ (bigSep Finset.univ fun t : Fin 31 => semVal (recvCell c t) 0)
        ∗ scr c (gath m) ∗ ∃ W, owes (c : Thread nD τ) 0 W) := by
  unfold mid scr
  rw [Finset.compl_univ, owedRecv_empty]
  iintro ⟨-, -, H1, -, -, H2, -, H3, H4, HO⟩
  isplitl [H1]; · iexact H1
  isplitl [H2]; · iexact H2
  isplitl [H3 H4]
  · iapply (rejoin m c)
    isplitl [H4] <;> iassumption
  iexact HO

/-! ## The opening and the ending -/

theorem hz2 : (![0, 0] : Fin 2 → Nat) = fun _ => 0 := funext fun a => by fin_cases a <;> rfl

theorem pay2_eq (v : Vec F S32x1024 .f32) : k0_pay2 v = v := by
  unfold k0_pay2; exact (shapeCast_self _ _).trans (shapeCast_self _ _)

/-- What the input staging buffer of `x` holds, whole. -/
def stgX (c : Dev nD) (f : (cc0_stg0_0 : Ref sig .tc).ty.Contents (Elt F)) : sProp 𝕄 := ((c : Thread nD τ).loc cc0_stg0_0) ↦{fullShare} f
def stgW (c : Dev nD) (f : (cc0_stg1_0 : Ref sig .tc).ty.Contents (Elt F)) : sProp 𝕄 := ((c : Thread nD τ).loc cc0_stg1_0) ↦{fullShare} f
def stgO (c : Dev nD) (f : (cc0_stg2_0 : Ref sig .tc).ty.Contents (Elt F)) : sProp 𝕄 := ((c : Thread nD τ).loc cc0_stg2_0) ↦{fullShare} f

/-- The store of the device's own block: its slot, wherever the program says it lies, ends with the block. -/
theorem wp_own (c : Dev nD) (o : Fin 2 → Nat) (i : ∀ a, o a + S32x1024.size a ≤ S1024x1024.size a) (h : o = ![32 * c.val, 0])
    (f : (cc0_scratch0 : Ref sig .tc).ty.Contents (Elt F)) (v : Vec F S32x1024 .f32) (hv : v = xstg m c)
    {hl : gM.view.LoadsAt (Rect.unit (s := S1024x1024) o S32x1024.size i).toLoadRect} {hx : (gM.access (Rect.unit (s := S1024x1024) o S32x1024.size i)).Stores Finset.univ}
    {hm : (Finset.univ : Finset (Rect.unit (s := S1024x1024) o S32x1024.size i).shape.Idx) = Finset.univ ∨ ∀ a, (Rect.unit (s := S1024x1024) o S32x1024.size i).stride a = 1}
    {Q : PUnit → sProp 𝕄} {k : Prog (TpuEff nD τ sig (Elt F) Λ₀ .tc) PUnit} :
    (slot c c fullShare f : sProp 𝕄)
      ⊢ iprop((slot c c fullShare (gath m) -∗ wp frame (wpE (defs₀ (F := F)) 𝒱₀ (c : Thread nD τ) none) Set.univ k Q)
        -∗ wp frame (wpE (defs₀ (F := F)) 𝒱₀ (c : Thread nD τ) none) Set.univ
            (.op (.load gM (Rect.unit (s := S1024x1024) o S32x1024.size i).toLoadRect hl) fun _ =>
              .op (.store gM (Rect.unit (s := S1024x1024) o S32x1024.size i) v Finset.univ hx hm) fun _ => k) Q) := by
  subst h hv
  rw [← own_stored m c f]
  unfold slot
  iintro Hown Hk
  iapply (wp_load_rect 𝒱₀ (c : Thread nD τ) none Set.univ (m := gM) (r := slotRect c) (S := (slotMem c).view.set) (q := fullShare) (f := f) (Finset.Subset.refl _)) $$ Hown; iintro Hown
  iapply (wp_store 𝒱₀ (c : Thread nD τ) none Set.univ (m := gM) (r := slotRect c) (Mk := Finset.univ) (S := (slotMem c).view.set) (f := f) (Finset.Subset.refl _)) $$ Hown; iintro Hown
  iapply Hk; iexact Hown

/-- The five signals and the wait. -/
theorem wp_hands (K : Dev nD × CK → ℕ) (c : Dev nD) (n : Fin 5 → Dev nD) (hn : ∀ p, n p = c + sgn p) (z y : Int) (hz : z = ((1 : ℕ) : Int)) (hy : y = ((5 : ℕ) : Int))
    {Q : PUnit → sProp 𝕄} {k : Prog (TpuEff nD τ sig (Elt F) Λ₀ .tc) PUnit} :
    iprop(records m K ∗ levAts L lv ∗ sigs c Finset.univ ∗ cred (tallyAt (barCell c) () 5) ∗ atPos ER (barCell c) 0 ∅ 0
        ∗ ∃ W, owes (c : Thread nD τ) (owedRecv c Finset.univ + owedBar c Finset.univ) W)
      ⊢ iprop((((∃ W, owes (c : Thread nD τ) (owedRecv c Finset.univ) W) ∗ semVal (barCell c) 0
              ∗ bigSep Finset.univ fun t : Fin 31 => iprop(∃ f, slot (c + tg t) (c + so t) fullShare f))
            -∗ wp frame (wpE (defs₀ (F := F)) 𝒱₀ (c : Thread nD τ) none) Set.univ k Q)
        -∗ wp frame (wpE (defs₀ (F := F)) 𝒱₀ (c : Thread nD τ) none) Set.univ
          (.op (.semSignal (n 0 : Thread nD τ) barS z) fun _ => .op (.semSignal (n 1 : Thread nD τ) barS z) fun _ => .op (.semSignal (n 2 : Thread nD τ) barS z) fun _ =>
            .op (.semSignal (n 3 : Thread nD τ) barS z) fun _ => .op (.semSignal (n 4 : Thread nD τ) barS z) fun _ => .op (.semWait barS y) fun _ => k) Q) := by
  iintro ⟨#HR, #Hlev, Hs, Hc, Hat, HO⟩ Hk
  iapply (wp_bar_signal m K c (n 0) 0 Finset.univ (hn 0) (by decide) z hz) $$ [Hs HO]
  · isplitr; · iexact HR
    isplitl [Hs] <;> iassumption
  iintro ⟨Hs, HO⟩
  iapply (wp_bar_signal m K c (n 1) 1 (Finset.univ.erase 0) (hn 1) (by decide) z hz) $$ [Hs HO]
  · isplitr; · iexact HR
    isplitl [Hs] <;> iassumption
  iintro ⟨Hs, HO⟩
  iapply (wp_bar_signal m K c (n 2) 2 ((Finset.univ.erase 0).erase 1) (hn 2) (by decide) z hz) $$ [Hs HO]
  · isplitr; · iexact HR
    isplitl [Hs] <;> iassumption
  iintro ⟨Hs, HO⟩
  iapply (wp_bar_signal m K c (n 3) 3 (((Finset.univ.erase 0).erase 1).erase 2) (hn 3) (by decide) z hz) $$ [Hs HO]
  · isplitr; · iexact HR
    isplitl [Hs] <;> iassumption
  iintro ⟨Hs, HO⟩
  iapply (wp_bar_signal m K c (n 4) 4 ((((Finset.univ.erase 0).erase 1).erase 2).erase 3) (hn 4) (by decide) z hz) $$ [Hs HO]
  · isplitr; · iexact HR
    isplitl [Hs] <;> iassumption
  iintro ⟨-, HO⟩
  rw [show ((((Finset.univ.erase 0).erase 1).erase 2).erase 3).erase (4 : Fin 5) = ∅ by decide]
  iapply (wp_bar_wait m K c y hy) $$ [Hc Hat HO]
  · isplitr; · iexact HR
    isplitr; · iexact Hlev
    isplitl [Hc]; · iexact Hc
    isplitl [Hat] <;> iassumption
  iexact Hk

/-- The devices signalled, as the program computes them. -/
def sigDev (c : Dev nD) : Fin 5 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩]
theorem sigDev_eq : ∀ (c : Dev nD) p, sigDev c p = c + sgn p := by decide +kernel

/-- The opening, its operations one after the other. -/
theorem opening_eq (c : Dev nD) (k : Prog (TpuEff nD τ sig (Elt F) Λ₀ .tc) PUnit) :
    opening c k = .op (.semSignal (sigDev c 0 : Thread nD τ) barS (1#32).toInt) fun _ => .op (.semSignal (sigDev c 1 : Thread nD τ) barS (1#32).toInt) fun _ =>
      .op (.semSignal (sigDev c 2 : Thread nD τ) barS (1#32).toInt) fun _ => .op (.semSignal (sigDev c 3 : Thread nD τ) barS (1#32).toInt) fun _ =>
      .op (.semSignal (sigDev c 4 : Thread nD τ) barS (1#32).toInt) fun _ => .op (.semWait barS (5#32).toInt) fun _ =>
      .op (.load xM (Rect.unit (s := S32x1024) ![0, 0] S32x1024.size inb_S32x1024_S32x1024_0_0).toLoadRect (View.loadsAt_vmem h_S32x1024)) fun v =>
      .op (.load gM (ownRect c).toLoadRect (View.loadsAt_vmem h_S32x1024)) fun _ =>
      .op (.store gM (ownRect c) (k0_pay2 v) Finset.univ (View.stores_vmem_bits_univ h_S32x1024 rfl) (.inl rfl)) fun _ => k := rfl

/-- The opening. -/
theorem wp_opening (K : Dev nD × CK → ℕ) (c : Dev nD) (f : (cc0_scratch0 : Ref sig .tc).ty.Contents (Elt F))
    {Q : PUnit → sProp 𝕄} {k : Prog (TpuEff nD τ sig (Elt F) Λ₀ .tc) PUnit} :
    iprop(ghost m K c ∗ creds c ∗ levAts L lv ∗ scr c f ∗ stgX c (xstg m c) ∗ ∃ W, owes (c : Thread nD τ) (O₀ c) W)
      ⊢ iprop(((mid m c ∅ ∅ ∅ ∗ stgX c (xstg m c) ∗ semVal (barCell c) 0) -∗ wp frame (wpE (defs₀ (F := F)) 𝒱₀ (c : Thread nD τ) none) Set.univ k Q)
        -∗ wp frame (wpE (defs₀ (F := F)) 𝒱₀ (c : Thread nD τ) none) Set.univ (opening c k) Q) := by
  rw [opening_eq]
  unfold ghost poss payToks creds
  iintro ⟨⟨#HR, ⟨HatB, HatS, HatV⟩, HtB, HtS, HtV⟩, ⟨HcB, HcV⟩, #Hlev, Hscr, Hx, HO⟩ Hk
  unfold scr
  ihave Hp := (whole_pays c f) $$ Hscr
  icases Hp with ⟨Hown, Hpays⟩
  have hsig : iprop((bigSep Finset.univ fun p : Fin 5 => dutyTok ER (barCell (c + sgn p)) 0 p) ∗ (bigSep Finset.univ fun p : Fin 5 => barPay (c + sgn p) p))
      ⊢ (sigs c Finset.univ : sProp 𝕄) := by unfold sigs; rw [bigSep_sep']
  ihave Hs := hsig $$ [HtB Hpays]
  · isplitl [HtB] <;> iassumption
  unfold O₀
  iapply (wp_hands m K c (sigDev c) (sigDev_eq c) (1#32).toInt (5#32).toInt (by decide) (by decide)) $$ [Hs HcB HatB HO]
  · isplitr; · iexact HR
    isplitr; · iexact Hlev
    isplitl [Hs]; · iexact Hs
    isplitl [HcB]; · iexact HcB
    isplitl [HatB] <;> iassumption
  iintro ⟨HO, Hz, Hdst⟩
  unfold stgX
  iapply (wp_load 𝒱₀ (c : Thread nD τ) none Set.univ (m := xM) (Finset.subset_univ _)) $$ Hx; iintro Hx
  iapply (wp_own m c (k0_off1 c) (k0_off1_inb c) (off1_eq c) f _ ((pay2_eq _).trans (Memref.readAt_unit_zero (Elt F) cc0_stg0_0 hz2 _ _))) $$ Hown
  iintro Hown
  iapply Hk
  isplitr [Hx Hz]
  · iapply (mid_intro m c)
    isplitl [HtS]; · iexact HtS
    isplitl [HtV]; · iexact HtV
    isplitl [Hdst]; · iexact Hdst
    isplitl [HatS]; · iexact HatS
    isplitl [HatV]; · iexact HatV
    isplitl [HcV]; · iexact HcV
    isplitl [Hown]; · iexact Hown
    iexact HO
  isplitl [Hx] <;> iassumption

/-- The ending. -/
theorem wp_ending (c : Dev nD) (g : (cc0_stg2_0 : Ref sig .tc).ty.Contents (Elt F)) {Q : PUnit → sProp 𝕄} :
    iprop(scr c (gath m) ∗ stgW c (wstg m c) ∗ stgO c g)
      ⊢ iprop(((scr c (gath m) ∗ stgW c (wstg m c) ∗ stgO c (outAt m c)) -∗ Q ⟨⟩)
        -∗ wp frame (wpE (defs₀ (F := F)) 𝒱₀ (c : Thread nD τ) none) Set.univ ending Q) := by
  unfold ending
  simp only [Prog.lift, Prog.bind_op, Prog.bind_ret, Prog.pure_eq_ret]
  unfold scr stgW stgO
  iintro ⟨Hg, Hw, Ho⟩ Hk
  iapply (wp_load 𝒱₀ (c : Thread nD τ) none Set.univ (m := gM) (Finset.subset_univ _)) $$ Hg; iintro Hg
  rw [show (gM : Memref sig .tc .vmem S1024x1024 .f32).view.readAt (Elt F) (Rect.unit (s := S1024x1024) ![0, 0] S1024x1024.size inb_S1024x1024_S1024x1024_0_0).toLoadRect (gath m) = gath m from
    Memref.readAt_unit_zero (Elt F) cc0_scratch0 hz2 _ _]
  iapply (wp_load 𝒱₀ (c : Thread nD τ) none Set.univ (m := wM) (Finset.subset_univ _)) $$ Hw; iintro Hw
  rw [show (wM : Memref sig .tc .vmem S1024x32 .f32).view.readAt (Elt F) (Rect.unit (s := S1024x32) ![0, 0] S1024x32.size inb_S1024x32_S1024x32_0_0).toLoadRect (wstg m c) = wstg m c from
    Memref.readAt_unit_zero (Elt F) cc0_stg1_0 hz2 _ _]
  iapply (wp_load 𝒱₀ (c : Thread nD τ) none Set.univ (m := oM) (Finset.subset_univ _)) $$ Ho; iintro Ho
  iapply (wp_store 𝒱₀ (c : Thread nD τ) none Set.univ (m := oM) (r := Rect.unit (s := S1024x32) ![0, 0] S1024x32.size inb_S1024x32_S1024x32_0_0) (Mk := Finset.univ) (Finset.subset_univ _)) $$ Ho; iintro Ho
  rw [show ((oM : Memref sig .tc .vmem S1024x32 .f32).access (Rect.unit (s := S1024x32) ![0, 0] S1024x32.size inb_S1024x32_S1024x32_0_0) : View sig .tc _ _ _).write (Elt F) g (k0_pay1 (gath m) (wstg m c)) Finset.univ
      = outAt m c from Memref.write_access_unit_zero_univ (Elt F) cc0_stg2_0 hz2 _ g _, wp_ret]
  imodintro
  iapply Hk
  isplitl [Hg]; · iexact Hg
  isplitl [Hw] <;> iassumption

end Cert.AllGather

end
-- ==== Proof.Launch.lean ====
/-
# The body as the launch calls it

What a device holds before and after its one run of the body, the contents of the three staging buffers, and the body
carried from the one to the other.
-/
module

public import proofs.«01_k».proof.Proof.Body

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline calls it -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ ∗ stg c cc0_stg0_0 (xstg m c) ∗ stg c cc0_stg1_0 (wstg m c) ∗ stg c cc0_stg2_0 (outAt m c))

/-- The body from what the pipeline and the launch give it to what they want back. -/
theorem sound_body (c : Dev nD) (Kt : PUnit → sProp 𝕄) :
    iprop(bodyPre m c ∗ (bodyPost m c -∗ Kt ⟨⟩))
      ⊢ wp frame (wpE (defs₀ (F := F)) 𝒱₀ (c : Thread nD τ) none) Set.univ (.op .deviceId fun d => opening d (runOps d ending ops)) Kt := by
  rw [wp_deviceId]
  unfold bodyPre Φ₀ start
  iintro ⟨⟨⟨⟨⟨%K, Hgh⟩, Hsp, Hcr, #Hlev⟩, ⟨%f, Hscr⟩⟩, Ho, ⟨%d0, %g0, %hg0, Hx⟩, ⟨%d1, %g1, %hg1, Hw⟩, ⟨%d2, %g2, %hg2, Hout⟩⟩, Hk⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m 0 c).owed t0_0.castSucc = O₀ c from rfl]
  ihave #HR := (show ghost m K c ⊢ records m K by unfold ghost; iintro ⟨H, -⟩; iexact H) $$ Hgh
  iapply (wp_opening m K c f) $$ [Hgh Hcr Hscr Hx HO]
  · isplitl [Hgh]; · iexact Hgh
    isplitl [Hcr]; · iexact Hcr
    isplitr; · iexact Hlev
    isplitl [Hscr]; · iexact Hscr
    isplitl [Hx]; · unfold stgX; iexact Hx
    iexists W; iexact HO
  iintro ⟨Hmid, Hx, Hz⟩
  iapply (wp_ops m K c ending Kt ops ∅ ∅ ∅ ops_match ops_run)
  isplitr; · iexact HR
  isplitr; · iexact Hlev
  isplitl [Hmid]; · iexact Hmid
  iintro Hmid
  ihave Hd := (mid_done m c) $$ Hmid
  icases Hd with ⟨HzS, HzV, Hscr, ⟨%W', HO⟩⟩
  iapply (wp_ending m c g2) $$ [Hscr Hw Hout]
  · isplitl [Hscr]; · iexact Hscr
    isplitl [Hw]; · unfold stgW; iexact Hw
    unfold stgO; iexact Hout
  iintro ⟨Hscr, Hw, Hout⟩
  iapply Hk
  unfold bodyPost Φ₁ Dat.owesAt Pipeline.owesWithin stgX stgW stgO
  rw [show (dats m 0 c).owed t0_0.succ = 0 from rfl]
  isplitl [Hscr HzS HzV Hsp Hz]
  · isplitl [Hscr]; · iexact Hscr
    isplitl [HzS]; · iexact HzS
    isplitl [HzV]; · iexact HzV
    isplitl [Hsp] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 100000 in
/-- The pipeline's obligation on the body of device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6) (fun _ => bodyPost m c)
  rw [body_eq]
  iintro H
  iapply (sound_body m c fun _ => bodyPost m c)
  isplitl [H]; · iexact H
  iintro H; iexact H

end Cert.AllGather

end
-- ==== Proof.Deal.lean ====
/-
# Dealing the launch's resources

The launch's element funds every cell of every device and mints one token per duty. One global step allocates all
invariants and sends each token to the device that pays the duty. The credit a device starts with is what the others owe
its barrier cell and its receive cells.
-/
module

public import proofs.«01_k».proof.Proof.Launch

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Products over sums and around the devices -/

omit [FloatOps F] in
theorem big_sum {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

omit [FloatOps F] in
theorem big_unit (Φ : Unit → sProp 𝕄) : bigSep Finset.univ Φ = Φ () := by
  rw [show (Finset.univ : Finset Unit) = {()} from rfl, bigSep_singleton]

theorem add_right_injective : ∀ x : Dev nD, Function.Injective fun c : Dev nD => c + x := by decide +kernel

/-- Adding `x` to a device. -/
def shift (x : Dev nD) : Dev nD ≃ Dev nD :=
  Equiv.ofBijective (fun c => c + x) (Finite.injective_iff_bijective.mp (add_right_injective x))

/-- Adding `x i` to the device of a pair `(c, i)`. -/
def shear {I : Type} [Fintype I] (x : I → Dev nD) : Dev nD × I ≃ Dev nD × I :=
  Equiv.ofBijective (fun ci => (ci.1 + x ci.2, ci.2)) (Finite.injective_iff_bijective.mp (by
    rintro ⟨c, i⟩ ⟨c', i'⟩ h
    have h2 : i = i' := congrArg Prod.snd h
    subst h2
    have h1 : c = c' := add_right_injective (x i) (congrArg Prod.fst h)
    rw [h1]))

omit [FloatOps F] in
/-- What every device has for each `i` is what device `c + x i` has for `i`, over all `c`. -/
theorem big_around {I : Type} [Fintype I] [DecidableEq I] (x : I → Dev nD) (Φ : Dev nD → I → sProp 𝕄) :
    (bigSep Finset.univ fun c => bigSep Finset.univ fun i => Φ c i) = bigSep Finset.univ fun c => bigSep Finset.univ fun i => Φ (c + x i) i := by
  have h1 := bigSep_univ_prod (fun ci : Dev nD × I => Φ ci.1 ci.2)
  have h2 := bigSep_univ_prod (fun ci : Dev nD × I => Φ (ci.1 + x ci.2) ci.2)
  have h3 := bigSep_univ_equiv (shear x) (fun ci : Dev nD × I => Φ ci.1 ci.2)
  exact h1.symm.trans (h3.trans h2)

/-! ## The cells and tokens minted -/

/-- The kernel's own semaphores: those of the transfers, and the eight nothing uses. -/
def osem : (Fin 31 ⊕ Fin 31) ⊕ Fin 8 → SemLoc sig
  | .inl k => csem (.inr k)
  | .inr i => .dma (spareSem i)

theorem ownSemFacts : Pipeline.OwnSemFacts cfg0.spec osem := by decide +kernel

def ringCells : Finset (GSem nD τ sig) := Finset.univ.map ⟨kcell, kcell_injective⟩

/-- A device's duties. -/
abbrev TK : Type := Fin 5 ⊕ (Fin 31 ⊕ Fin 31)
def tokOf (ck : Dev nD × TK) : GSem nD τ sig × ℕ × Fin 5 := match ck.2 with
  | .inl p => (barCell ck.1, 0, p)
  | .inr k => (kcell (ck.1, .inr k), 0, 0)
theorem tokOf_injective : Function.Injective tokOf := by
  rintro ⟨c, k⟩ ⟨c', k'⟩ h
  have hg : (tokOf (c, k)).1 = (tokOf (c', k')).1 := congrArg Prod.fst h
  have hp : (tokOf (c, k)).2.2 = (tokOf (c', k')).2.2 := congrArg (fun x => x.2.2) h
  rcases k with p | k <;> rcases k' with p' | k'
  · have h1 := kcell_injective hg
    have h2 : p = p' := hp
    cases h1; cases h2; rfl
  · have h1 := kcell_injective hg
    cases h1
  · have h1 := kcell_injective hg
    cases h1
  · have h1 := kcell_injective hg
    cases h1; rfl
def ringToks : Finset (GSem nD τ sig × ℕ × Fin 5) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun p : Fin 5 => dutyTok ER (barCell c) 0 p)
    ∗ (bigSep Finset.univ fun t : Fin 31 => dutyTok ER (sendCell c t) 0 0)
    ∗ bigSep Finset.univ fun t : Fin 31 => dutyTok ER (recvCell c t) 0 0)

/-- What the launch's element deals device `c`, -/
def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ toks c)

/-- and what the global step makes of it. -/
def G' (c : Dev nD) : sProp 𝕄 := iprop((∃ K, ghost m K c) ∗ spares c)

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [big_sum, big_sum]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun t : Fin 31 => semVal (sendCell c t) 0) ∗ bigSep Finset.univ fun t : Fin 31 => semVal (recvCell c t) 0) ∗ spares c) := by
  unfold Pipeline.ownSems0 spares; rw [big_sum, big_sum]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ spares c) : sProp 𝕄) := by
  rw [ownSems0_eq, unscopedSems0_eq, big_sum, big_sum, big_unit]
  iintro ⟨⟨⟨HS, HV⟩, Hsp⟩, HB⟩
  isplitr [Hsp]
  · isplitl [HB]; · iexact HB
    isplitl [HS] <;> iassumption
  iexact Hsp

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ spares c) := by
  unfold G
  iintro ⟨Hos, Hus, Hst, Hat, Htok⟩
  ihave Hv := (sems0_eq (F := F) c) $$ [Hos Hus]
  · isplitl [Hos] <;> iassumption
  icases Hv with ⟨Hv, Hsp⟩
  imod (show iprop((bigSep Finset.univ fun k : CK => semVal (kcell (c, k)) 0) ∗ bigSep Finset.univ fun k : CK => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
/-- Every token goes to the device that pays its duty. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    big_around sgn (fun c p => (dutyTok ER (barCell c) 0 p : sProp 𝕄)),
    big_around tg (fun c t => (dutyTok ER (recvCell c t) 0 0 : sProp 𝕄))]

omit [FloatOps F] in
theorem poss_eq (c : Dev nD) : (bigSep Finset.univ fun k : CK => (atPos ER (kcell (c, k)) 0 ∅ 0 : sProp 𝕄)) = poss c := by
  unfold poss; rw [big_sum, big_sum, big_unit]

omit [FloatOps F] in
theorem with_records {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ spares c) : sProp 𝕄)
      ⊢ bigSep Finset.univ (G' m) := by
  rw [bigSep_sep', bigSep_sep', bigSep_sep', ← bigSep_univ_prod (fun ck : Dev nD × CK => iprop(∃ κ : ℕ, cellInv ER (rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)),
    bigSep_congr (s := Finset.univ) (fun (c : Dev nD) _ => poss_eq c)]
  iintro ⟨HI, ⟨Hat, #HR⟩, Htok, Hsp⟩
  ihave HK := (BI.bigSep_exists_pi Finset.univ (fun (ck : Dev nD × CK) (κ : ℕ) => (cellInv ER (rd m) κ (kcell ck) : sProp 𝕄))) $$ HI
  icases HK with ⟨%K, #HI⟩
  ihave Htk := (toks_around (F := F)) $$ Htok
  have hg : ∀ c : Dev nD, iprop(records m K ∗ (poss c ∗ payToks c ∗ spares c)) ⊢ G' m c := fun c => by
    unfold G' ghost
    iintro ⟨H1, H2, H3, H4⟩
    isplitr [H4]
    · iexists K
      isplitl [H1]; · iexact H1
      isplitl [H2] <;> iassumption
    iexact H4
  iapply (with_records (R := records m K) hg)
  isplitr
  · unfold records; isplitl; · iexact HI
    iexact HR
  · rw [bigSep_sep', bigSep_sep']
    isplitl [Hat]; · iexact Hat
    isplitl [Htk] <;> iassumption

omit [FloatOps F] in
/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- What all devices together owe one cell, when device `d` owes `n` units to cell `k` of device `d + x`. -/
theorem owed_total (x c : Dev nD) (k k' : CK) (n : ℕ) :
    (∑ d : Dev nD, (tallyAt (kcell (d + x, k)) () n : CellTallies nD τ sig Unit) (kcell (c, k')) ()) = if k = k' then n else 0 := by
  have h : ∀ d : Dev nD, (tallyAt (kcell (d + x, k)) () n : CellTallies nD τ sig Unit) (kcell (c, k')) () = if d + x = c then (if k = k' then n else 0) else 0 := fun d => by
    rw [tallyAt_apply]
    by_cases h1 : d + x = c
    · by_cases h2 : k = k'
      · rw [if_pos h1, if_pos h2, if_pos ⟨by rw [h1, h2], rfl⟩]
      · rw [if_pos h1, if_neg h2, if_neg fun ⟨h3, _⟩ => h2 (congrArg Prod.snd (kcell_injective h3)).symm]
    · rw [if_neg h1, if_neg fun ⟨h3, _⟩ => h1 (congrArg Prod.fst (kcell_injective h3)).symm]
  refine (Finset.sum_congr rfl fun d _ => h d).trans
    ((Equiv.sum_comp (shift x) (fun e : Dev nD => if e = c then (if k = k' then n else 0) else 0)).trans ?_)
  rw [Finset.sum_ite_eq' Finset.univ c, if_pos (Finset.mem_univ _)]

theorem owed_cell (c : Dev nD) (k : CK) :
    (∑ d : Dev nD, O₀ d (kcell (c, k)) ()) = (∑ t : Fin 31, if (.inr (.inr t) : CK) = k then N else 0) + ∑ p : Fin 5, if (.inl () : CK) = k then 1 else 0 := by
  have h : ∀ d : Dev nD, O₀ d (kcell (c, k)) () = (∑ t : Fin 31, (tallyAt (kcell (d + tg t, .inr (.inr t))) () N : CellTallies nD τ sig Unit) (kcell (c, k)) ())
      + ∑ p : Fin 5, (tallyAt (kcell (d + sgn p, .inl ())) () 1 : CellTallies nD τ sig Unit) (kcell (c, k)) () := fun d => by
    unfold O₀ owedRecv owedBar
    rw [Pi.add_apply, Finsupp.add_apply, sum_tally_apply, sum_tally_apply]
  rw [Finset.sum_congr rfl fun d _ => h d, Finset.sum_add_distrib, Finset.sum_comm, Finset.sum_comm (s := Finset.univ (α := Dev nD)) (t := Finset.univ (α := Fin 5)),
    Finset.sum_congr rfl fun t _ => owed_total (tg t) c (.inr (.inr t)) k N, Finset.sum_congr rfl fun p _ => owed_total (sgn p) c (.inl ()) k 1]

theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same, owed_cell,
    Finset.sum_eq_zero (fun t _ => if_neg (by intro h; cases h)), Finset.sum_congr rfl fun p _ => if_pos rfl]
  rfl

theorem launch_recv (c : Dev nD) (t : Fin 31) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, owed_cell,
    Finset.sum_eq_zero (s := Finset.univ (α := Fin 5)) (fun t _ => if_neg (by intro h; cases h)), Nat.add_zero,
    Finset.sum_congr rfl (g := fun s : Fin 31 => if s = t then N else 0) (fun s _ => by
      by_cases h : s = t
      · rw [if_pos h, if_pos (by rw [h])]
      · rw [if_neg h, if_neg (by intro h'; exact h (Sum.inr.inj (Sum.inr.inj h')))]),
    Finset.sum_ite_eq' Finset.univ t, if_pos (Finset.mem_univ _)]

/-- The cells that others owe. -/
def owedCK : Unit ⊕ Fin 31 → CK
  | .inl _ => .inl ()
  | .inr t => .inr (.inr t)
theorem owedCK_injective : Function.Injective owedCK := by
  rintro (a | a) (b | b) h <;> cases h <;> rfl
def owedSem (k : Unit ⊕ Fin 31) : SemLoc sig := csem (owedCK k)
theorem owedSem_injective : Function.Injective owedSem := csem_injective.comp owedCK_injective

omit [FloatOps F] in
theorem creds_intro (c : Dev nD) : (Pipeline.launchCred O₀ c : sProp 𝕄) ⊢ creds c := by
  unfold Pipeline.launchCred creds
  rw [big_split Finset.univ (fun sm : SemLoc sig => sm ∈ Finset.univ.image owedSem),
    show (Finset.univ.filter fun sm : SemLoc sig => sm ∈ Finset.univ.image owedSem) = Finset.univ.image owedSem by ext; simp,
    bigSep_image_of_injOn (fun a _ b _ h => owedSem_injective h), big_sum, big_unit]
  have hb : (cred (tallyOn (((c.tc : Thread nD τ)), owedSem (.inl ())) (launchCredit (Pipeline.owing O₀) 0 ((c.tc : Thread nD τ), owedSem (.inl ())))) : sProp 𝕄)
      = cred (tallyAt (barCell c) () 5) := congrArg cred (launch_bar c)
  have hr : (bigSep Finset.univ fun t : Fin 31 => (cred (tallyOn ((c.tc : Thread nD τ), owedSem (.inr t)) (launchCredit (Pipeline.owing O₀) 0 ((c.tc : Thread nD τ), owedSem (.inr t)))) : sProp 𝕄))
      = bigSep Finset.univ fun t : Fin 31 => cred (tallyAt (recvCell c t) () N) := bigSep_congr fun t _ => congrArg cred (launch_recv c t)
  rw [hb, hr]
  iintro ⟨H, -⟩
  iexact H

end Cert.AllGather

end
-- ==== Proof.Run.lean ====
/-
# The run

Every fair execution of the kernel's program ends with the arrays the pipeline computes and with every counter at zero.
-/
module

public import proofs.«01_k».proof.Proof.Deal
public import Idealize.ShloMosaic.Lib.Pipeline.CollectiveSegs

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m 0 c).share w = fullShare := by unfold Dat.share; split <;> rfl

/-- What the launch hands a device, and its share of the global step, is what its body starts with. -/
theorem start_intro (c : Dev nD) :
    iprop(Pipeline.unscopedRestP Pipeline.Prefetch.none cfg0.spec c (fun b => m (((c : Thread nD τ)).loc b)) ∗ levAts L lv
        ∗ Pipeline.launchCred O₀ c ∗ prngReg c (ρ c) ∗ G' m c)
      ⊢ (|={Set.univ}=> iprop(start m c ∗ emp) : sProp 𝕄) := by
  unfold G' start
  iintro ⟨-, Hlev, Hcr, -, Hgh, Hsp⟩
  ihave Hcr := (creds_intro (F := F) c) $$ Hcr
  imodintro
  isplitl
  · isplitl [Hgh]; · iexact Hgh
    isplitl [Hsp]; · iexact Hsp
    isplitl [Hcr] <;> iassumption
  iempintro

theorem phi0_intro (c : Dev nD) :
    iprop(start m c ∗ Pipeline.prefHeld Pipeline.Prefetch.none c (fun _ => fullShare.right) (fun k => k.elim0)
        ∗ Pipeline.scopedRest cfg0.spec c) ⊢ (dats m 0 c).Φ 0 := by
  rw [show (dats m 0 c).Φ 0 = Φ₀ m c from rfl, scopedRest0_eq]
  unfold Φ₀ scr
  iintro ⟨Hs, -, %f, Hf⟩
  isplitl [Hs]; · iexact Hs
  iexists f; iexact Hf

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scr
  iintro ⟨Hf, HzS, HzV, Hsp, Hz⟩
  isplitl [Hz]; · iexact Hz
  isplitr [Hf]
  · isplitr [Hsp]
    · isplitl [HzS] <;> iassumption
    iexact Hsp
  iexists _; iexact Hf

theorem waits (c : Dev nD) : levAts L lv ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The contents of window `w`'s array on device `c` after the launch. -/
def finalA (c : Dev nD) (w : Fin cfg0.W) : Buf (Elt F) ((cfg0.win w).arr.view.loc (c : Thread nD τ)) := (dats m 0 c).arrAt w cfg0.N

set_option maxRecDepth 100000 in
theorem run_main :
    θ_run defs (onTc (τ := τ) (main (F := F))) ⟨m, fun _ => 0, ρ⟩
      (fun r => (∀ (c : Dev nD) (w : Fin cfg0.W), r.2.mem ((cfg0.win w).arr.view.loc (c : Thread nD τ)) = finalA m c w)
        ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose)
    (hne := fun w => by fin_cases w <;> exact Nat.succ_pos _)
    (harr := arr_whole0) (hstage := stage_whole0)
    (hshare := share_eq m)
    (hdistinct := winFacts0.arr_inj)
    (O₀ := O₀) (howed₀ := fun _ => rfl) (howedN := fun _ => rfl)
    (L := L) (lv := lv) (hL := L_of_ne)
    (hwaits := waits m)
    (G := G m) (G' := G' m)
    (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The computed contents -/

theorem finalA_x (c : Dev nD) : finalA m c (0 : Fin 3) = m (win0_0.arr.view.loc (c : Thread nD τ)) :=
  (dats (F := F) m 0 c).arrAt_in (0 : Fin 3) rfl _

theorem finalA_w (c : Dev nD) : finalA m c (1 : Fin 3) = m (win0_1.arr.view.loc (c : Thread nD τ)) :=
  (dats (F := F) m 0 c).arrAt_in (1 : Fin 3) rfl _

theorem finalA_o (c : Dev nD) :
    (win0_2.blk (0 : Fin 1)).view.read (Elt F) (finalA m c (2 : Fin 3)) = outAt m c := by
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

/-! ## The windows' one block is the whole array -/

omit [FloatOps F] in
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

omit [FloatOps F] in
theorem wstg_eq (c : Dev nD) : wstg m c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

theorem result_eq (c : Dev nD) : finalA m c (2 : Fin 3) = outAt m c := by
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  have ho := finalA_o m c
  rw [hr] at ho
  exact ho

/-- The run, read at the two arguments and the result. -/
theorem run_at :
    θ_run defs (onTc (τ := τ) (main (F := F))) ⟨m, fun _ => 0, ρ⟩
      (fun r => (∀ c : Dev nD, r.2.mem (c.tc.loc main_v1) = outAt m c
          ∧ r.2.mem (c.tc.loc main_arg0) = m (c.tc.loc main_arg0) ∧ r.2.mem (c.tc.loc main_arg1) = m (c.tc.loc main_arg1))
        ∧ r.2.sem = fun _ => 0) :=
  (θ_run defs _ _).mono (fun _ h => ⟨fun c => ⟨(h.1 c (2 : Fin 3)).trans (result_eq m c),
    (h.1 c (0 : Fin 3)).trans (finalA_x m c), (h.1 c (1 : Fin 3)).trans (finalA_w m c)⟩, h.2⟩) (run_main m ρ)

end Cert.AllGather

end
-- ==== Proof.Same.lean ====
/-
# One program, read at two kinds of numbers

The kernel at bit patterns and the kernel at ideal numbers are the same program: the operations that touch floats are a
parameter of both.
-/
module

public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton

@[expose] public section

noncomputable section

namespace Cert.Same

open Idealize.ShloMosaic

variable {F : FTy → Type} [FloatOps F] [h : Cert.Kernel.Facts] [h' : Cert.KernelIdeal.Facts]

theorem body_eq : @Cert.Kernel.cc0_body F _ h = @Cert.KernelIdeal.cc0_body F _ h' := rfl

theorem main_eq : Cert.Kernel.main (F := F) = Cert.KernelIdeal.main (F := F) := rfl

theorem defs_eq0 : Cert.Kernel.defs₀ (F := F) = Cert.KernelIdeal.defs₀ (F := F) := by
  unfold Cert.Kernel.defs₀ Cert.KernelIdeal.defs₀
  refine congrArg Defs.onTc (funext fun l => funext fun x => ?_)
  obtain ⟨l, hl⟩ := l
  match l, hl, x with
  | 0, _, (t, s) => exact rfl

theorem defs_eq : Cert.Kernel.defs (F := F) = Cert.KernelIdeal.defs (F := F) :=
  congrArg (Pipeline.defs Cert.KernelIdeal.pcfgs) defs_eq0

end Cert.Same

end
-- ==== Proof.Values.lean ====
/-
# The values

Device `c` multiplies the whole first argument, gathered from the blocks of all the devices, by its own columns of the
second and keeps the positive part: that is its columns of the reference's result.
-/
module

public import proofs.«01_k».proof.Proof.Run
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.Pipeline.Value

@[expose] public section

noncomputable section

namespace Cert.AllGather

open Cert.KernelIdeal Cert.KernelIdeal.Gen
open Idealize.ShloMosaic Idealize.ShloMosaic.TcCoe Idealize.ShloMosaic.ValueIdx

variable (m : (ℓ : Loc nD τ sig) → Buf (Elt Ideal) ℓ)

abbrev WholeS : Shape := ⟨2, ![1024, 1024]⟩
abbrev ColsS : Shape := ⟨2, ![1024, 32]⟩
abbrev RowsS : Shape := ⟨2, ![32, 1024]⟩

/-- The reference's result, of its two arguments. -/
def refOut (A B : WholeS.Idx → Elt Ideal .f32) : WholeS.Idx → Elt Ideal .f32 :=
  maximumf (F := Ideal) (φ := .f32) (Host.dotGeneral (φ₁ := .f32) (φ₂ := .f32) Cert.ReferenceIdeal.dot_S1024x1024_S1024x1024_S1024x1024_1_0_0_1_n_n none A B)
    (broadcastInDim Cert.ReferenceIdeal.S1024x1024 ![] Cert.ReferenceIdeal.Facts₀.bcast_S_S1024x1024 (constant (F := Ideal) Cert.ReferenceIdeal.S_ .f32 0x00000000#32))

/-- The rows gathered from all the devices are the whole array that the devices' blocks are cut from. -/
theorem gath_whole (A : WholeS.Idx → Elt Ideal .f32)
    (hA : ∀ c : Dev nD, m (c.tc.loc main_arg0) = Layout.block RowsS WholeS 0 32 c A) : gath m = A := by
  funext i
  unfold gath
  rw [xstg_eq, hA]
  refine congrArg A (funext fun a => ?_)
  apply Fin.ext
  match a with
  | ⟨0, _⟩ => exact Nat.div_add_mod' (i 0).val 32
  | ⟨1, _⟩ => rfl

theorem kernel_dot : Cert.KernelIdeal.dot_S1024x1024_S1024x32_S1024x32_1_0_0_1_n_n = DotDims.plain 1024 1024 32 := rfl

theorem reference_dot : Cert.ReferenceIdeal.dot_S1024x1024_S1024x1024_S1024x1024_1_0_0_1_n_n = DotDims.plain 1024 1024 1024 := rfl

/-- What a device computes, at row `r` and column `s`. -/
theorem pay_apply (A : WholeS.Idx → Elt Ideal .f32) (w : ColsS.Idx → Elt Ideal .f32) (r : Fin 1024) (s : Fin 32) :
    k0_pay1 (F := Ideal) A w (ix2 r s) = max (∑ k : Fin 1024, A (ix2 r k) * w (ix2 k s)) (Ideal.ofBits .f32 0x00000000#32) := by
  unfold k0_pay1
  rw [shapeCast_self, kernel_dot]
  show max (FloatOps.matmul (DotDims.plain 1024 1024 32) none A w (constant (F := Ideal) ColsS .f32 0x00000000#32) (ix2 r s)) _ = _
  rw [Ideal.matmul_plain_apply]
  refine congrArg₂ max ?_ rfl
  show Ideal.ofBits .f32 0x00000000#32 + _ = _
  rw [Ideal.ofBits_zero_f32, zero_add]

/-- The reference's result, at row `r` and column `s`. -/
theorem refOut_apply (A B : WholeS.Idx → Elt Ideal .f32) (r s : Fin 1024) :
    refOut A B (ix2 r s) = max (∑ k : Fin 1024, A (ix2 r k) * B (ix2 k s)) (Ideal.ofBits .f32 0x00000000#32) := by
  unfold refOut
  rw [reference_dot]
  show max (Host.dotGeneral (F := Ideal) (φ₁ := .f32) (φ₂ := .f32) (DotDims.plain 1024 1024 1024) none A B (ix2 r s)) _ = _
  rw [StackMember.dotGeneral_plain_apply]
  rfl

/-- Device `c`'s result is its columns of the reference's result. -/
theorem out_block (A B : WholeS.Idx → Elt Ideal .f32)
    (hA : ∀ c : Dev nD, m (c.tc.loc main_arg0) = Layout.block RowsS WholeS 0 32 c A)
    (hB : ∀ c : Dev nD, m (c.tc.loc main_arg1) = Layout.block ColsS WholeS 1 32 c B) (c : Dev nD) :
    outAt m c = Layout.block ColsS WholeS 1 32 c (refOut A B) := by
  funext i
  obtain ⟨r, s, rfl⟩ : ∃ (r : Fin 1024) (s : Fin 32), i = ix2 r s :=
    ⟨i 0, i 1, funext fun a => by match a with | ⟨0, _⟩ => rfl | ⟨1, _⟩ => rfl⟩
  have hc : c.val < 32 := c.isLt
  have hcol : ∀ k : Fin 1024, (show Layout.Tiles ColsS WholeS 1 32 by decide).idx c (ix2 k s)
      = ix2 k (⟨c.val * 32 + s.val, by omega⟩ : Fin 1024) := fun k =>
    funext fun a => by
      apply Fin.ext
      match a with
      | ⟨0, _⟩ => rfl
      | ⟨1, _⟩ => rfl
  unfold outAt
  rw [gath_whole m A hA, wstg_eq, hB, pay_apply, Layout.block_apply, hcol, refOut_apply]
  simp only [Layout.block_apply, hcol]

end Cert.AllGather

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Values
public import Idealize.ShloMosaic.Adequacy
public import Idealize.ShloMosaic.Init

@[expose] public section

noncomputable section

namespace Cert.Proof

open Idealize.ShloMosaic Idealize.ShloMosaic.TcCoe Idealize.SL.Sem Cert.Kernel

/-- The kernel at ideal numbers runs, keeps its arguments, and leaves every counter at zero. -/
theorem frame_pi : Cert.quiescent_KernelIdeal (hKernelIdeal := Cert.KernelIdeal.Gen.facts) := by
  intro m g _
  exact (θ_run Cert.KernelIdeal.defs _ _).mono (fun _ h => ⟨fun c => (h.1 c).2, h.2⟩) (Cert.AllGather.run_at m g)

/-- The kernel at bit patterns: the same program, so the same run. -/
theorem frame_p : Cert.quiescent_Kernel (hKernel := Cert.Kernel.Gen.facts) := by
  intro m g _
  have h : θ_run (Cert.KernelIdeal.defs (F := Bits)) (onTc (τ := Cert.KernelIdeal.τ) (Cert.KernelIdeal.main (F := Bits))) ⟨m, fun _ => 0, g⟩
      (fun r => (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1))
        ∧ r.2.sem = fun _ => 0) :=
    (θ_run Cert.KernelIdeal.defs _ _).mono (fun _ h => ⟨fun c => (h.1 c).2, h.2⟩) (Cert.AllGather.run_at (F := Bits) m g)
  rw [← Cert.Same.defs_eq, ← Cert.Same.main_eq] at h
  exact h

/-- The reference runs and keeps its arguments; it declares no semaphore. -/
theorem frame_ri : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

/-- Each device's result is its columns of the reference's result. -/
theorem values : Cert.algebraic_KernelIdeal_ReferenceIdeal (hKernelIdeal := Cert.KernelIdeal.Gen.facts)
    (hReferenceIdeal := Cert.ReferenceIdeal.Gen.facts) := by
  intro m g m' g' _ hagree
  refine ⟨Cert.AllGather.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).1.trans (Cert.AllGather.out_block m _ _ (fun c => (hagree c).1) (fun c => (hagree c).2) c), (h.1 c).2⟩)
      (Cert.AllGather.run_at m g)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_p, frame_pi, frame_ri, trivial, values⟩

end Cert.Proof

end
